-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))).1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))).2.1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))).2.2.1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))).2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))).1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))).2.1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))).2.2.1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))).2.2.2 = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_MlpFirst (m : (ℓ : Loc Cert.MlpFirst.nD Cert.MlpFirst.τ Cert.MlpFirst.sig) → Buf (Elt Bits) ℓ) : Prop :=
  True

def Pre_MlpFirstIdeal (m : (ℓ : Loc Cert.MlpFirstIdeal.nD Cert.MlpFirstIdeal.τ Cert.MlpFirstIdeal.sig) → Buf (Elt Ideal) ℓ) : Prop :=
  True

def Pre_MlpFirstRefIdeal (m : (ℓ : Loc Cert.MlpFirstRefIdeal.nD Cert.MlpFirstRefIdeal.τ Cert.MlpFirstRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_MlpFirst [hMlpFirst : Cert.MlpFirst.Facts] : Prop :=
  ∀ (m : (ℓ : Loc Cert.MlpFirst.nD Cert.MlpFirst.τ Cert.MlpFirst.sig) → Buf (Elt Bits) ℓ) (g : Dev Cert.MlpFirst.nD → PrngReg), Pre_MlpFirst m →
    θ_run (Cert.MlpFirst.defs (F := Bits)) (onTc (τ := Cert.MlpFirst.τ) (Cert.MlpFirst.main (F := Bits))) ⟨m, fun _ => 0, g⟩ (fun r => (∀ c : Dev Cert.MlpFirst.nD,
      r.2.mem ((c.tc : Thread Cert.MlpFirst.nD Cert.MlpFirst.τ).loc Cert.MlpFirst.main_arg0) = m ((c.tc : Thread Cert.MlpFirst.nD Cert.MlpFirst.τ).loc Cert.MlpFirst.main_arg0)
      ∧ r.2.mem ((c.tc : Thread Cert.MlpFirst.nD Cert.MlpFirst.τ).loc Cert.MlpFirst.main_arg1) = m ((c.tc : Thread Cert.MlpFirst.nD Cert.MlpFirst.τ).loc Cert.MlpFirst.main_arg1)
      ∧ r.2.mem ((c.tc : Thread Cert.MlpFirst.nD Cert.MlpFirst.τ).loc Cert.MlpFirst.main_arg2) = m ((c.tc : Thread Cert.MlpFirst.nD Cert.MlpFirst.τ).loc Cert.MlpFirst.main_arg2)
      ∧ r.2.mem ((c.tc : Thread Cert.MlpFirst.nD Cert.MlpFirst.τ).loc Cert.MlpFirst.main_arg3) = m ((c.tc : Thread Cert.MlpFirst.nD Cert.MlpFirst.τ).loc Cert.MlpFirst.main_arg3)
      ∧ r.2.mem ((c.tc : Thread Cert.MlpFirst.nD Cert.MlpFirst.τ).loc Cert.MlpFirst.main_arg4) = m ((c.tc : Thread Cert.MlpFirst.nD Cert.MlpFirst.τ).loc Cert.MlpFirst.main_arg4))
      ∧ r.2.sem = fun _ => 0)

def quiescent_MlpFirstIdeal [hMlpFirstIdeal : Cert.MlpFirstIdeal.Facts] : Prop :=
  ∀ (m : (ℓ : Loc Cert.MlpFirstIdeal.nD Cert.MlpFirstIdeal.τ Cert.MlpFirstIdeal.sig) → Buf (Elt Ideal) ℓ) (g : Dev Cert.MlpFirstIdeal.nD → PrngReg), Pre_MlpFirstIdeal m →
    θ_run (Cert.MlpFirstIdeal.defs (F := Ideal)) (onTc (τ := Cert.MlpFirstIdeal.τ) (Cert.MlpFirstIdeal.main (F := Ideal))) ⟨m, fun _ => 0, g⟩ (fun r => (∀ c : Dev Cert.MlpFirstIdeal.nD,
      r.2.mem ((c.tc : Thread Cert.MlpFirstIdeal.nD Cert.MlpFirstIdeal.τ).loc Cert.MlpFirstIdeal.main_arg0) = m ((c.tc : Thread Cert.MlpFirstIdeal.nD Cert.MlpFirstIdeal.τ).loc Cert.MlpFirstIdeal.main_arg0)
      ∧ r.2.mem ((c.tc : Thread Cert.MlpFirstIdeal.nD Cert.MlpFirstIdeal.τ).loc Cert.MlpFirstIdeal.main_arg1) = m ((c.tc : Thread Cert.MlpFirstIdeal.nD Cert.MlpFirstIdeal.τ).loc Cert.MlpFirstIdeal.main_arg1)
      ∧ r.2.mem ((c.tc : Thread Cert.MlpFirstIdeal.nD Cert.MlpFirstIdeal.τ).loc Cert.MlpFirstIdeal.main_arg2) = m ((c.tc : Thread Cert.MlpFirstIdeal.nD Cert.MlpFirstIdeal.τ).loc Cert.MlpFirstIdeal.main_arg2)
      ∧ r.2.mem ((c.tc : Thread Cert.MlpFirstIdeal.nD Cert.MlpFirstIdeal.τ).loc Cert.MlpFirstIdeal.main_arg3) = m ((c.tc : Thread Cert.MlpFirstIdeal.nD Cert.MlpFirstIdeal.τ).loc Cert.MlpFirstIdeal.main_arg3)
      ∧ r.2.mem ((c.tc : Thread Cert.MlpFirstIdeal.nD Cert.MlpFirstIdeal.τ).loc Cert.MlpFirstIdeal.main_arg4) = m ((c.tc : Thread Cert.MlpFirstIdeal.nD Cert.MlpFirstIdeal.τ).loc Cert.MlpFirstIdeal.main_arg4))
      ∧ r.2.sem = fun _ => 0)

def quiescent_MlpFirstRefIdeal [hMlpFirstRefIdeal : Cert.MlpFirstRefIdeal.Facts] : Prop :=
  ∀ (m : (ℓ : Loc Cert.MlpFirstRefIdeal.nD Cert.MlpFirstRefIdeal.τ Cert.MlpFirstRefIdeal.sig) → Buf (Elt Ideal) ℓ) (g : Dev Cert.MlpFirstRefIdeal.nD → PrngReg), Pre_MlpFirstRefIdeal m →
    θ_run (Cert.MlpFirstRefIdeal.defs (F := Ideal)) (onTc (τ := Cert.MlpFirstRefIdeal.τ) (Cert.MlpFirstRefIdeal.main (F := Ideal))) ⟨m, fun _ => 0, g⟩ (fun r => (∀ c : Dev Cert.MlpFirstRefIdeal.nD,
      r.2.mem ((c.tc : Thread Cert.MlpFirstRefIdeal.nD Cert.MlpFirstRefIdeal.τ).loc Cert.MlpFirstRefIdeal.main_arg0) = m ((c.tc : Thread Cert.MlpFirstRefIdeal.nD Cert.MlpFirstRefIdeal.τ).loc Cert.MlpFirstRefIdeal.main_arg0)
      ∧ r.2.mem ((c.tc : Thread Cert.MlpFirstRefIdeal.nD Cert.MlpFirstRefIdeal.τ).loc Cert.MlpFirstRefIdeal.main_arg1) = m ((c.tc : Thread Cert.MlpFirstRefIdeal.nD Cert.MlpFirstRefIdeal.τ).loc Cert.MlpFirstRefIdeal.main_arg1)
      ∧ r.2.mem ((c.tc : Thread Cert.MlpFirstRefIdeal.nD Cert.MlpFirstRefIdeal.τ).loc Cert.MlpFirstRefIdeal.main_arg2) = m ((c.tc : Thread Cert.MlpFirstRefIdeal.nD Cert.MlpFirstRefIdeal.τ).loc Cert.MlpFirstRefIdeal.main_arg2)
      ∧ r.2.mem ((c.tc : Thread Cert.MlpFirstRefIdeal.nD Cert.MlpFirstRefIdeal.τ).loc Cert.MlpFirstRefIdeal.main_arg3) = m ((c.tc : Thread Cert.MlpFirstRefIdeal.nD Cert.MlpFirstRefIdeal.τ).loc Cert.MlpFirstRefIdeal.main_arg3)
      ∧ r.2.mem ((c.tc : Thread Cert.MlpFirstRefIdeal.nD Cert.MlpFirstRefIdeal.τ).loc Cert.MlpFirstRefIdeal.main_arg4) = m ((c.tc : Thread Cert.MlpFirstRefIdeal.nD Cert.MlpFirstRefIdeal.τ).loc Cert.MlpFirstRefIdeal.main_arg4))
      ∧ r.2.sem = fun _ => 0)

def preserves_Attn_AttnIdeal : Prop :=
  IdealRules.named_const.Statement Cert.AttnIdeal.κ "log2e_8" .f32 0x3E38AA3B#32 (((1 / 8) * (Real.log 2)⁻¹ : ℝ) : EReal)
  ∧ IdealRules.named_const.Statement Cert.AttnIdeal.κ "log2e" .f32 0x3FB8AA3B#32 (((Real.log 2)⁻¹ : ℝ) : EReal)

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)) →
    ∃ (v0 : (c : Dev Cert.AttnIdeal.nD) → Buf (Elt Ideal) ((c.tc : Thread Cert.AttnIdeal.nD Cert.AttnIdeal.τ).loc Cert.AttnIdeal.main_v24)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v24) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v103) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v7)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v7) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v37) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_MlpFirst_MlpFirstIdeal : Prop :=
  True

def algebraic_MlpFirstIdeal_MlpFirstRefIdeal [hMlpFirstIdeal : Cert.MlpFirstIdeal.Facts] [hMlpFirstRefIdeal : Cert.MlpFirstRefIdeal.Facts] : Prop :=
  ∀ (m : (ℓ : Loc Cert.MlpFirstIdeal.nD Cert.MlpFirstIdeal.τ Cert.MlpFirstIdeal.sig) → Buf (Elt Ideal) ℓ) (g : Dev Cert.MlpFirstIdeal.nD → PrngReg)
    (m' : (ℓ : Loc Cert.MlpFirstRefIdeal.nD Cert.MlpFirstRefIdeal.τ Cert.MlpFirstRefIdeal.sig) → Buf (Elt Ideal) ℓ) (g' : Dev Cert.MlpFirstRefIdeal.nD → PrngReg), Pre_MlpFirstIdeal m →
    (∀ c : Dev Cert.MlpFirstIdeal.nD,
      m' ((c.tc : Thread Cert.MlpFirstRefIdeal.nD Cert.MlpFirstRefIdeal.τ).loc Cert.MlpFirstRefIdeal.main_arg0) = m ((c.tc : Thread Cert.MlpFirstIdeal.nD Cert.MlpFirstIdeal.τ).loc Cert.MlpFirstIdeal.main_arg0)
      ∧ m' ((c.tc : Thread Cert.MlpFirstRefIdeal.nD Cert.MlpFirstRefIdeal.τ).loc Cert.MlpFirstRefIdeal.main_arg1) = m ((c.tc : Thread Cert.MlpFirstIdeal.nD Cert.MlpFirstIdeal.τ).loc Cert.MlpFirstIdeal.main_arg1)
      ∧ m' ((c.tc : Thread Cert.MlpFirstRefIdeal.nD Cert.MlpFirstRefIdeal.τ).loc Cert.MlpFirstRefIdeal.main_arg2) = m ((c.tc : Thread Cert.MlpFirstIdeal.nD Cert.MlpFirstIdeal.τ).loc Cert.MlpFirstIdeal.main_arg2)
      ∧ m' ((c.tc : Thread Cert.MlpFirstRefIdeal.nD Cert.MlpFirstRefIdeal.τ).loc Cert.MlpFirstRefIdeal.main_arg3) = m ((c.tc : Thread Cert.MlpFirstIdeal.nD Cert.MlpFirstIdeal.τ).loc Cert.MlpFirstIdeal.main_arg3)
      ∧ m' ((c.tc : Thread Cert.MlpFirstRefIdeal.nD Cert.MlpFirstRefIdeal.τ).loc Cert.MlpFirstRefIdeal.main_arg4) = m ((c.tc : Thread Cert.MlpFirstIdeal.nD Cert.MlpFirstIdeal.τ).loc Cert.MlpFirstIdeal.main_arg4)) →
    ∃ (v0 : (c : Dev Cert.MlpFirstIdeal.nD) → Buf (Elt Ideal) ((c.tc : Thread Cert.MlpFirstIdeal.nD Cert.MlpFirstIdeal.τ).loc Cert.MlpFirstIdeal.main_v7)),
      θ_run (Cert.MlpFirstIdeal.defs (F := Ideal)) (onTc (τ := Cert.MlpFirstIdeal.τ) (Cert.MlpFirstIdeal.main (F := Ideal))) ⟨m, fun _ => 0, g⟩ (fun r => ∀ c : Dev Cert.MlpFirstIdeal.nD,
          r.2.mem ((c.tc : Thread Cert.MlpFirstIdeal.nD Cert.MlpFirstIdeal.τ).loc Cert.MlpFirstIdeal.main_v7) = v0 c
          ∧ r.2.mem ((c.tc : Thread Cert.MlpFirstIdeal.nD Cert.MlpFirstIdeal.τ).loc Cert.MlpFirstIdeal.main_arg0) = m ((c.tc : Thread Cert.MlpFirstIdeal.nD Cert.MlpFirstIdeal.τ).loc Cert.MlpFirstIdeal.main_arg0)
          ∧ r.2.mem ((c.tc : Thread Cert.MlpFirstIdeal.nD Cert.MlpFirstIdeal.τ).loc Cert.MlpFirstIdeal.main_arg1) = m ((c.tc : Thread Cert.MlpFirstIdeal.nD Cert.MlpFirstIdeal.τ).loc Cert.MlpFirstIdeal.main_arg1)
          ∧ r.2.mem ((c.tc : Thread Cert.MlpFirstIdeal.nD Cert.MlpFirstIdeal.τ).loc Cert.MlpFirstIdeal.main_arg2) = m ((c.tc : Thread Cert.MlpFirstIdeal.nD Cert.MlpFirstIdeal.τ).loc Cert.MlpFirstIdeal.main_arg2)
          ∧ r.2.mem ((c.tc : Thread Cert.MlpFirstIdeal.nD Cert.MlpFirstIdeal.τ).loc Cert.MlpFirstIdeal.main_arg3) = m ((c.tc : Thread Cert.MlpFirstIdeal.nD Cert.MlpFirstIdeal.τ).loc Cert.MlpFirstIdeal.main_arg3)
          ∧ r.2.mem ((c.tc : Thread Cert.MlpFirstIdeal.nD Cert.MlpFirstIdeal.τ).loc Cert.MlpFirstIdeal.main_arg4) = m ((c.tc : Thread Cert.MlpFirstIdeal.nD Cert.MlpFirstIdeal.τ).loc Cert.MlpFirstIdeal.main_arg4))
      ∧ θ_run (Cert.MlpFirstRefIdeal.defs (F := Ideal)) (onTc (τ := Cert.MlpFirstRefIdeal.τ) (Cert.MlpFirstRefIdeal.main (F := Ideal))) ⟨m', fun _ => 0, g'⟩ (fun r => ∀ c : Dev Cert.MlpFirstRefIdeal.nD,
          r.2.mem ((c.tc : Thread Cert.MlpFirstRefIdeal.nD Cert.MlpFirstRefIdeal.τ).loc Cert.MlpFirstRefIdeal.main_v24) = v0 c
          ∧ r.2.mem ((c.tc : Thread Cert.MlpFirstRefIdeal.nD Cert.MlpFirstRefIdeal.τ).loc Cert.MlpFirstRefIdeal.main_arg0) = m' ((c.tc : Thread Cert.MlpFirstRefIdeal.nD Cert.MlpFirstRefIdeal.τ).loc Cert.MlpFirstRefIdeal.main_arg0)
          ∧ r.2.mem ((c.tc : Thread Cert.MlpFirstRefIdeal.nD Cert.MlpFirstRefIdeal.τ).loc Cert.MlpFirstRefIdeal.main_arg1) = m' ((c.tc : Thread Cert.MlpFirstRefIdeal.nD Cert.MlpFirstRefIdeal.τ).loc Cert.MlpFirstRefIdeal.main_arg1)
          ∧ r.2.mem ((c.tc : Thread Cert.MlpFirstRefIdeal.nD Cert.MlpFirstRefIdeal.τ).loc Cert.MlpFirstRefIdeal.main_arg2) = m' ((c.tc : Thread Cert.MlpFirstRefIdeal.nD Cert.MlpFirstRefIdeal.τ).loc Cert.MlpFirstRefIdeal.main_arg2)
          ∧ r.2.mem ((c.tc : Thread Cert.MlpFirstRefIdeal.nD Cert.MlpFirstRefIdeal.τ).loc Cert.MlpFirstRefIdeal.main_arg3) = m' ((c.tc : Thread Cert.MlpFirstRefIdeal.nD Cert.MlpFirstRefIdeal.τ).loc Cert.MlpFirstRefIdeal.main_arg3)
          ∧ r.2.mem ((c.tc : Thread Cert.MlpFirstRefIdeal.nD Cert.MlpFirstRefIdeal.τ).loc Cert.MlpFirstRefIdeal.main_arg4) = m' ((c.tc : Thread Cert.MlpFirstRefIdeal.nD Cert.MlpFirstRefIdeal.τ).loc Cert.MlpFirstRefIdeal.main_arg4))

def Claim : Prop :=
  ∃ (hAttn : Cert.Attn.Facts) (hAttnIdeal : Cert.AttnIdeal.Facts) (hAttnRefIdeal : Cert.AttnRefIdeal.Facts) (hMlp : Cert.Mlp.Facts) (hMlpIdeal : Cert.MlpIdeal.Facts) (hMlpRefIdeal : Cert.MlpRefIdeal.Facts) (hMlpFirst : Cert.MlpFirst.Facts) (hMlpFirstIdeal : Cert.MlpFirstIdeal.Facts) (hMlpFirstRefIdeal : Cert.MlpFirstRefIdeal.Facts) (hPre_finite : Cert.Pre_finite.Facts),
    quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_Mlp (hMlp := hMlp)
    ∧ quiescent_MlpIdeal (hMlpIdeal := hMlpIdeal)
    ∧ quiescent_MlpRefIdeal (hMlpRefIdeal := hMlpRefIdeal)
    ∧ quiescent_MlpFirst (hMlpFirst := hMlpFirst)
    ∧ quiescent_MlpFirstIdeal (hMlpFirstIdeal := hMlpFirstIdeal)
    ∧ quiescent_MlpFirstRefIdeal (hMlpFirstRefIdeal := hMlpFirstRefIdeal)
    ∧ preserves_Attn_AttnIdeal
    ∧ algebraic_AttnIdeal_AttnRefIdeal_pre_finite (hAttnIdeal := hAttnIdeal) (hAttnRefIdeal := hAttnRefIdeal) (hPre_finite := hPre_finite)
    ∧ preserves_Mlp_MlpIdeal
    ∧ algebraic_MlpIdeal_MlpRefIdeal (hMlpIdeal := hMlpIdeal) (hMlpRefIdeal := hMlpRefIdeal)
    ∧ preserves_MlpFirst_MlpFirstIdeal
    ∧ algebraic_MlpFirstIdeal_MlpFirstRefIdeal (hMlpFirstIdeal := hMlpFirstIdeal) (hMlpFirstRefIdeal := hMlpFirstRefIdeal)
-- ==== Pre_finite.lean ====
abbrev S8x4096x1024 : Shape := ⟨3, ![8, 4096, 1024]⟩
abbrev S2x1024 : Shape := ⟨2, ![2, 1024]⟩
abbrev S1x1024x1280 : Shape := ⟨3, ![1, 1024, 1280]⟩
abbrev S1x1280 : Shape := ⟨2, ![1, 1280]⟩
abbrev S1x1024x1024 : Shape := ⟨3, ![1, 1024, 1024]⟩
abbrev S1x1024 : Shape := ⟨2, ![1, 1024]⟩
abbrev S1x16 : Shape := ⟨2, ![1, 16]⟩
abbrev S1024 : Shape := ⟨1, ![1024]⟩
abbrev S_ : Shape := ⟨0, ![]⟩
abbrev S1x1024x1152 : Shape := ⟨3, ![1, 1024, 1152]⟩
abbrev S1x1152 : Shape := ⟨2, ![1, 1152]⟩

class Facts : Prop where
  slices_S2x1024_S1x1024_1_0 : S2x1024.Slices ![1, 0] S1x1024
  shapeCasts_S1x1024_S1024 : S1x1024.ShapeCasts S1024
  bcast_S_S1024 : S_.BroadcastsInDim S1024 (![] : Fin 0 → Fin S1024.rank)
  slices_S1x1024x1280_S1x1024x1152_0_0_0 : S1x1024x1280.Slices ![0, 0, 0] S1x1024x1152
  bcast_S_S1x1024x1152 : S_.BroadcastsInDim S1x1024x1152 (![] : Fin 0 → Fin S1x1024x1152.rank)
  slices_S1x1280_S1x1152_0_0 : S1x1280.Slices ![0, 0] S1x1152
  bcast_S_S1x1152 : S_.BroadcastsInDim S1x1152 (![] : Fin 0 → Fin S1x1152.rank)
  bcast_S_S1x16 : S_.BroadcastsInDim S1x16 (![] : Fin 0 → Fin S1x16.rank)

variable [Facts]

def fn {F : FTy → Type} [FloatOps F] (main_arg0 : FVec F S8x4096x1024 .f32) (main_arg1 : FVec F S2x1024 .f32) (main_arg2 : FVec F S1x1024x1280 .f32) (main_arg3 : FVec F S1x1280 .f32) (main_arg4 : FVec F S1x1024x1024 .f32) (main_arg5 : FVec F S1x1024 .f32) (main_arg6 : FVec F S1x16 .f32) : IVec S1024 1 × IVec S1x1024x1152 1 × IVec S1x1152 1 × IVec S1x16 1 :=
  let main_v0 : FVec F S1x1024 .f32 := (extractStridedSlice S1x1024 ![1, 0] · slices_S2x1024_S1x1024_1_0) main_arg1
  let main_v1 : FVec F S1024 .f32 := shapeCast S1024 main_v0 shapeCasts_S1x1024_S1024
  let main_v2 : FVec F S1024 .f32 := Host.absf main_v1
  let main_cst : FVec F S_ .f32 := constant S_ .f32 0x7F800000#32
  let main_v3 : FVec F S1024 .f32 := broadcastInDim S1024 ![] bcast_S_S1024 main_cst
  let main_v4 : IVec S1024 1 := cmpf .olt main_v2 main_v3
  let main_v5 : FVec F S1x1024x1152 .f32 := (extractStridedSlice S1x1024x1152 ![0, 0, 0] · slices_S1x1024x1280_S1x1024x1152_0_0_0) main_arg2
  let main_v6 : FVec F S1x1024x1152 .f32 := Host.absf main_v5
  let main_cst_0 : FVec F S_ .f32 := constant S_ .f32 0x7F800000#32
  let main_v7 : FVec F S1x1024x1152 .f32 := broadcastInDim S1x1024x1152 ![] bcast_S_S1x1024x1152 main_cst_0
  let main_v8 : IVec S1x1024x1152 1 := cmpf .olt main_v6 main_v7
  let main_v9 : FVec F S1x1152 .f32 := (extractStridedSlice S1x1152 ![0, 0] · slices_S1x1280_S1x1152_0_0) main_arg3
  let main_v10 : FVec F S1x1152 .f32 := Host.absf main_v9
  let main_cst_1 : FVec F S_ .f32 := constant S_ .f32 0x7F800000#32
  let main_v11 : FVec F S1x1152 .f32 := broadcastInDim S1x1152 ![] bcast_S_S1x1152 main_cst_1
  let main_v12 : IVec S1x1152 1 := cmpf .olt main_v10 main_v11
  let main_cst_2 : FVec F S_ .f32 := constant S_ .f32 0x7F800000#32
  let main_v13 : FVec F S1x16 .f32 := broadcastInDim S1x16 ![] bcast_S_S1x16 main_cst_2
  let main_v14 : IVec S1x16 1 := cmpf .olt main_arg6 main_v13
  (main_v4, main_v8, main_v12, main_v14)
-- ==== Attn.lean ====
abbrev S8x4096x1024 : Shape := ⟨3, ![8, 4096, 1024]⟩
abbrev S2x1024 : Shape := ⟨2, ![2, 1024]⟩
abbrev S1x1024x1280 : Shape := ⟨3, ![1, 1024, 1280]⟩
abbrev S1x1280 : Shape := ⟨2, ![1, 1280]⟩
abbrev S1x1024x1024 : Shape := ⟨3, ![1, 1024, 1024]⟩
abbrev S1x1024 : Shape := ⟨2, ![1, 1024]⟩
abbrev S1x16 : Shape := ⟨2, ![1, 16]⟩
abbrev S1024 : Shape := ⟨1, ![1024]⟩
abbrev S1024x1280 : Shape := ⟨2, ![1024, 1280]⟩
abbrev S1280 : Shape := ⟨1, ![1280]⟩
abbrev S1024x1024 : Shape := ⟨2, ![1024, 1024]⟩
abbrev S16 : Shape := ⟨1, ![16]⟩
abbrev S1024x128 : Shape := ⟨2, ![1024, 128]⟩
abbrev S128 : Shape := ⟨1, ![128]⟩
abbrev S128x1 : Shape := ⟨2, ![128, 1]⟩
abbrev S128x128 : Shape := ⟨2, ![128, 128]⟩
abbrev S1x128 : Shape := ⟨2, ![1, 128]⟩
abbrev S128x1024 : Shape := ⟨2, ![128, 1024]⟩
abbrev S8x1024x128 : Shape := ⟨3, ![8, 1024, 128]⟩
abbrev S4x1152x128 : Shape := ⟨3, ![4, 1152, 128]⟩
abbrev S2x9x64x128 : Shape := ⟨4, ![2, 9, 64, 128]⟩
abbrev S4x128x128 : Shape := ⟨3, ![4, 128, 128]⟩
abbrev S2x64x128 : Shape := ⟨3, ![2, 64, 128]⟩
abbrev S2x1x64x128 : Shape := ⟨4, ![2, 1, 64, 128]⟩
abbrev S128x256 : Shape := ⟨2, ![128, 256]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩
abbrev S1x256 : Shape := ⟨2, ![1, 256]⟩
abbrev S1x128x128 : Shape := ⟨3, ![1, 128, 128]⟩
abbrev S256x128 : Shape := ⟨2, ![256, 128]⟩
abbrev S1x256x128 : Shape := ⟨3, ![1, 256, 128]⟩
abbrev S64x128 : Shape := ⟨2, ![64, 128]⟩
abbrev S1x1x64x128 : Shape := ⟨4, ![1, 1, 64, 128]⟩
abbrev S1x512x128 : Shape := ⟨3, ![1, 512, 128]⟩
abbrev S512x128 : Shape := ⟨2, ![512, 128]⟩
abbrev S256x512 : Shape := ⟨2, ![256, 512]⟩
abbrev S1 : Shape := ⟨1, ![1]⟩
abbrev S64x256 : Shape := ⟨2, ![64, 256]⟩
abbrev S64x1024 : Shape := ⟨2, ![64, 1024]⟩
abbrev S1x256x256 : Shape := ⟨3, ![1, 256, 256]⟩

abbrev nBuf : Space → Nat
  | .hbm => 32
  | .vmem => 17
  | .smem => 1
  | _ => 0

abbrev bufTy : (tb : Table) → Fin (tcTables nBuf tb) → BufTy
  | .hbm, ⟨0, _⟩ => ⟨S8x4096x1024, .f32⟩
  | .hbm, ⟨1, _⟩ => ⟨S2x1024, .f32⟩
  | .hbm, ⟨2, _⟩ => ⟨S1x1024x1280, .f32⟩
  | .hbm, ⟨3, _⟩ => ⟨S1x1280, .f32⟩
  | .hbm, ⟨4, _⟩ => ⟨S1x1024x1024, .f32⟩
  | .hbm, ⟨5, _⟩ => ⟨S1x1024, .f32⟩
  | .hbm, ⟨6, _⟩ => ⟨S1x16, .f32⟩
  | .hbm, ⟨7, _⟩ => ⟨S1x1024, .f32⟩
  | .hbm, ⟨8, _⟩ => ⟨S1024, .f32⟩
  | .hbm, ⟨9, _⟩ => ⟨S1024x1280, .f32⟩
  | .hbm, ⟨10, _⟩ => ⟨S1280, .f32⟩
  | .hbm, ⟨11, _⟩ => ⟨S1024x1024, .f32⟩
  | .hbm, ⟨12, _⟩ => ⟨S1024, .f32⟩
  | .hbm, ⟨13, _⟩ => ⟨S16, .f32⟩
  | .hbm, ⟨14, _⟩ => ⟨S1024x1024, .f32⟩
  | .hbm, ⟨15, _⟩ => ⟨S1024x128, .f32⟩
  | .hbm, ⟨16, _⟩ => ⟨S1024x128, .f32⟩
  | .hbm, ⟨17, _⟩ => ⟨S1024, .f32⟩
  | .hbm, ⟨18, _⟩ => ⟨S128, .f32⟩
  | .hbm, ⟨19, _⟩ => ⟨S128, .f32⟩
  | .hbm, ⟨20, _⟩ => ⟨S128x1, .f32⟩
  | .hbm, ⟨21, _⟩ => ⟨S128x128, .f32⟩
  | .hbm, ⟨22, _⟩ => ⟨S1x1024, .f32⟩
  | .hbm, ⟨23, _⟩ => ⟨S1024x1024, .bf16⟩
  | .hbm, ⟨24, _⟩ => ⟨S1x1024, .f32⟩
  | .hbm, ⟨25, _⟩ => ⟨S1024x128, .bf16⟩
  | .hbm, ⟨26, _⟩ => ⟨S1x128, .f32⟩
  | .hbm, ⟨27, _⟩ => ⟨S128x1024, .f32⟩
  | .hbm, ⟨28, _⟩ => ⟨S128x1024, .bf16⟩
  | .hbm, ⟨29, _⟩ => ⟨S1024x1024, .bf16⟩
  | .hbm, ⟨30, _⟩ => ⟨S1x1024, .f32⟩
  | .hbm, ⟨31, _⟩ => ⟨S8x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x1024, .bf16⟩
  | .local _ .vmem, ⟨4, _⟩ => ⟨S1x1024, .f32⟩
  | .local _ .vmem, ⟨5, _⟩ => ⟨S1024x128, .bf16⟩
  | .local _ .vmem, ⟨6, _⟩ => ⟨S1x128, .f32⟩
  | .local _ .vmem, ⟨7, _⟩ => ⟨S128x1024, .bf16⟩
  | .local _ .vmem, ⟨8, _⟩ => ⟨S128x128, .f32⟩
  | .local _ .vmem, ⟨9, _⟩ => ⟨S1024x1024, .bf16⟩
  | .local _ .vmem, ⟨10, _⟩ => ⟨S1x1024, .f32⟩
  | .local _ .vmem, ⟨11, _⟩ => ⟨S1x1024x1024, .f32⟩
  | .local _ .vmem, ⟨12, _⟩ => ⟨S1x1024x1024, .f32⟩
  | .local _ .vmem, ⟨13, _⟩ => ⟨S8x1024x128, .bf16⟩
  | .local _ .vmem, ⟨14, _⟩ => ⟨S4x1152x128, .bf16⟩
  | .local _ .vmem, ⟨15, _⟩ => ⟨S2x9x64x128, .bf16⟩
  | .local _ .vmem, ⟨16, _⟩ => ⟨S1024x1024, .bf16⟩
  | .local _ .smem, ⟨0, _⟩ => ⟨S16, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg11_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== AttnIdeal.lean ====
variable {F : FTy → Type} [FloatOps F] [Named F]
def κ : String → Option EReal := fun
  | "log2e" => some (((Real.log 2)⁻¹ : ℝ) : EReal)
  | "log2e_8" => some (((1 / 8) * (Real.log 2)⁻¹ : ℝ) : EReal)
  | _ => none
-- ==== AttnRefIdeal.lean ====
abbrev S8x4096x1024 : Shape := ⟨3, ![8, 4096, 1024]⟩
abbrev S2x1024 : Shape := ⟨2, ![2, 1024]⟩
abbrev S1x1024x1280 : Shape := ⟨3, ![1, 1024, 1280]⟩
abbrev S1x1280 : Shape := ⟨2, ![1, 1280]⟩
abbrev S1x1024x1024 : Shape := ⟨3, ![1, 1024, 1024]⟩
abbrev S1x1024 : Shape := ⟨2, ![1, 1024]⟩
abbrev S1x16 : Shape := ⟨2, ![1, 16]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x1280 : Shape := ⟨2, ![1024, 1280]⟩
abbrev S8x4096x1280 : Shape := ⟨3, ![8, 4096, 1280]⟩
abbrev S1280 : Shape := ⟨1, ![1280]⟩
abbrev S1x1x1280 : Shape := ⟨3, ![1, 1, 1280]⟩
abbrev S8x4096x128 : Shape := ⟨3, ![8, 4096, 128]⟩
abbrev S8x4096x16x64 : Shape := ⟨4, ![8, 4096, 16, 64]⟩
abbrev S8x4096x2x64 : Shape := ⟨4, ![8, 4096, 2, 64]⟩
abbrev S16 : Shape := ⟨1, ![16]⟩
abbrev S8x32x128x2x8x64 : Shape := ⟨6, ![8, 32, 128, 2, 8, 64]⟩
abbrev S8x4224x2x64 : Shape := ⟨4, ![8, 4224, 2, 64]⟩
abbrev S8x33x128x2x64 : Shape := ⟨5, ![8, 33, 128, 2, 64]⟩
abbrev S8x32x128x2x64 : Shape := ⟨5, ![8, 32, 128, 2, 64]⟩
abbrev S8x32x256x2x64 : Shape := ⟨5, ![8, 32, 256, 2, 64]⟩
abbrev S8x32x2x256x128x8 : Shape := ⟨6, ![8, 32, 2, 256, 128, 8]⟩
abbrev S8x32x2x8x128x256 : Shape := ⟨6, ![8, 32, 2, 8, 128, 256]⟩
abbrev S32 : Shape := ⟨1, ![32]⟩
abbrev S32x1x1 : Shape := ⟨3, ![32, 1, 1]⟩
abbrev S128 : Shape := ⟨1, ![128]⟩
abbrev S1x128x1 : Shape := ⟨3, ![1, 128, 1]⟩
abbrev S32x128x1 : Shape := ⟨3, ![32, 128, 1]⟩
abbrev S256 : Shape := ⟨1, ![256]⟩
abbrev S1x1x256 : Shape := ⟨3, ![1, 1, 256]⟩
abbrev S32x1x256 : Shape := ⟨3, ![32, 1, 256]⟩
abbrev S32x128x256 : Shape := ⟨3, ![32, 128, 256]⟩
abbrev S1x32x1x1x128x256 : Shape := ⟨6, ![1, 32, 1, 1, 128, 256]⟩
abbrev S2x8 : Shape := ⟨2, ![2, 8]⟩
abbrev S1x1x2x8x1x1 : Shape := ⟨6, ![1, 1, 2, 8, 1, 1]⟩
abbrev S8x32x2x8x128 : Shape := ⟨5, ![8, 32, 2, 8, 128]⟩
abbrev S8x32x2x8x128x1 : Shape := ⟨6, ![8, 32, 2, 8, 128, 1]⟩
abbrev S8x32x2x64x8x128 : Shape := ⟨6, ![8, 32, 2, 64, 8, 128]⟩
abbrev S1024x1024 : Shape := ⟨2, ![1024, 1024]⟩

abbrev nBuf : Space → Nat
  | .hbm => 131
  | .vmem => 0
  | .smem => 0
  | _ => 0

abbrev hbmTy0_0 (i : Nat) : BufTy := match i % 128 with
  | 0 => ⟨S8x4096x1024, .f32⟩
  | 1 => ⟨S2x1024, .f32⟩
  | 2 => ⟨S1x1024x1280, .f32⟩
  | 3 => ⟨S1x1280, .f32⟩
  | 4 => ⟨S1x1024x1024, .f32⟩
  | 5 => ⟨S1x1024, .f32⟩
  | 6 => ⟨S1x16, .f32⟩
  | 7 => ⟨S1x1024, .f32⟩
  | 8 => ⟨S1024, .f32⟩
  | 9 => ⟨S8x4096x1024, .f32⟩
  | 10 => ⟨S_, .f32⟩
  | 11 => ⟨S8x4096, .f32⟩
  | 12 => ⟨S8x4096x1, .f32⟩
  | 13 => ⟨S_, .f32⟩
  | 14 => ⟨S8x4096x1, .f32⟩
  | 15 => ⟨S8x4096x1, .f32⟩
  | 16 => ⟨S_, .f32⟩
  | 17 => ⟨S8x4096x1, .f32⟩
  | 18 => ⟨S8x4096x1, .f32⟩
  | 19 => ⟨S8x4096x1, .f32⟩
  | 20 => ⟨S8x4096x1024, .f32⟩
  | 21 => ⟨S8x4096x1024, .f32⟩
  | 22 => ⟨S1x1x1024, .f32⟩
  | 23 => ⟨S8x4096x1024, .f32⟩
  | 24 => ⟨S8x4096x1024, .f32⟩
  | 25 => ⟨S1024x1280, .f32⟩
  | 26 => ⟨S8x4096x1280, .f32⟩
  | 27 => ⟨S1280, .f32⟩
  | 28 => ⟨S1x1x1280, .f32⟩
  | 29 => ⟨S8x4096x1280, .f32⟩
  | 30 => ⟨S8x4096x1280, .f32⟩
  | 31 => ⟨S8x4096x1024, .f32⟩
  | 32 => ⟨S8x4096x128, .f32⟩
  | 33 => ⟨S8x4096x128, .f32⟩
  | 34 => ⟨S8x4096x16x64, .f32⟩
  | 35 => ⟨S8x4096x2x64, .f32⟩
  | 36 => ⟨S8x4096x2x64, .f32⟩
  | 37 => ⟨S16, .f32⟩
  | 38 => ⟨S8x32x128x2x8x64, .f32⟩
  | 39 => ⟨S_, .i32⟩
  | 40 => ⟨S_, .f32⟩
  | 41 => ⟨S8x4224x2x64, .f32⟩
  | 42 => ⟨S8x33x128x2x64, .f32⟩
  | 43 => ⟨S_, .i32⟩
  | 44 => ⟨S_, .f32⟩
  | 45 => ⟨S8x4224x2x64, .f32⟩
  | 46 => ⟨S8x33x128x2x64, .f32⟩
  | 47 => ⟨S8x32x128x2x64, .f32⟩
  | 48 => ⟨S8x32x128x2x64, .f32⟩
  | 49 => ⟨S8x32x256x2x64, .f32⟩
  | 50 => ⟨S8x32x128x2x64, .f32⟩
  | 51 => ⟨S8x32x128x2x64, .f32⟩
  | 52 => ⟨S8x32x256x2x64, .f32⟩
  | 53 => ⟨S8x32x2x256x128x8, .f32⟩
  | 54 => ⟨S8x32x2x8x128x256, .f32⟩
  | 55 => ⟨S_, .f32⟩
  | 56 => ⟨S8x32x2x8x128x256, .f32⟩
  | 57 => ⟨S8x32x2x8x128x256, .f32⟩
  | 58 => ⟨S32, .i32⟩
  | 59 => ⟨S32x1x1, .i32⟩
  | 60 => ⟨S_, .i32⟩
  | 61 => ⟨S32x1x1, .i32⟩
  | 62 => ⟨S32x1x1, .i32⟩
  | 63 => ⟨S128, .i32⟩
  | 64 => ⟨S1x128x1, .i32⟩
  | 65 => ⟨S32x128x1, .i32⟩
  | 66 => ⟨S32x128x1, .i32⟩
  | 67 => ⟨S32x128x1, .i32⟩
  | 68 => ⟨S32, .i32⟩
  | 69 => ⟨S32x1x1, .i32⟩
  | 70 => ⟨S_, .i32⟩
  | 71 => ⟨S32x1x1, .i32⟩
  | 72 => ⟨S32x1x1, .i32⟩
  | 73 => ⟨S_, .i32⟩
  | 74 => ⟨S32x1x1, .i32⟩
  | 75 => ⟨S32x1x1, .i32⟩
  | 76 => ⟨S256, .i32⟩
  | 77 => ⟨S1x1x256, .i32⟩
  | 78 => ⟨S32x1x256, .i32⟩
  | 79 => ⟨S32x1x256, .i32⟩
  | 80 => ⟨S32x1x256, .i32⟩
  | 81 => ⟨S32x128x256, .i32⟩
  | 82 => ⟨S32x128x256, .i32⟩
  | 83 => ⟨S32x128x256, .i32⟩
  | 84 => ⟨S_, .i32⟩
  | 85 => ⟨S32x128x256, .i32⟩
  | 86 => ⟨S32x128x256, .i1⟩
  | 87 => ⟨S_, .i32⟩
  | 88 => ⟨S32x128x256, .i32⟩
  | 89 => ⟨S32x128x256, .i1⟩
  | 90 => ⟨S32x128x256, .i1⟩
  | 91 => ⟨S_, .i32⟩
  | 92 => ⟨S32x1x256, .i32⟩
  | 93 => ⟨S32x1x256, .i1⟩
  | 94 => ⟨S32x128x256, .i1⟩
  | 95 => ⟨S32x128x256, .i1⟩
  | 96 => ⟨S1x32x1x1x128x256, .i1⟩
  | 97 => ⟨S_, .f32⟩
  | 98 => ⟨S_, .f32⟩
  | 99 => ⟨S8x32x2x8x128x256, .i1⟩
  | 100 => ⟨S8x32x2x8x128x256, .f32⟩
  | 101 => ⟨S8x32x2x8x128x256, .f32⟩
  | 102 => ⟨S2x8, .f32⟩
  | 103 => ⟨S1x1x2x8x1x1, .f32⟩
  | 104 => ⟨S_, .f32⟩
  | 105 => ⟨S8x32x2x8x128, .f32⟩
  | 106 => ⟨S8x32x2x8x128x1, .f32⟩
  | 107 => ⟨S8x32x2x8x128x1, .f32⟩
  | 108 => ⟨S8x32x2x8x128x1, .f32⟩
  | 109 => ⟨S8x32x2x8x128x256, .f32⟩
  | 110 => ⟨S8x32x2x8x128x256, .f32⟩
  | 111 => ⟨S8x32x2x8x128x256, .f32⟩
  | 112 => ⟨S_, .f32⟩
  | 113 => ⟨S8x32x2x8x128, .f32⟩
  | 114 => ⟨S8x32x2x8x128x1, .f32⟩
  | 115 => ⟨S8x32x2x8x128x1, .f32⟩
  | 116 => ⟨S8x32x2x8x128x1, .f32⟩
  | 117 => ⟨S8x32x2x8x128x1, .f32⟩
  | 118 => ⟨S8x32x2x8x128x1, .f32⟩
  | 119 => ⟨S8x32x2x8x128x256, .f32⟩
  | 120 => ⟨S8x32x2x8x128x256, .f32⟩
  | 121 => ⟨S8x32x2x64x8x128, .f32⟩
  | 122 => ⟨S8x32x128x2x8x64, .f32⟩
  | 123 => ⟨S8x4096x1024, .f32⟩
  | 124 => ⟨S1024x1024, .f32⟩
  | 125 => ⟨S8x4096x1024, .f32⟩
  | 126 => ⟨S1024, .f32⟩
  | 127 => ⟨S1x1x1024, .f32⟩
  | _ => ⟨S8x4096x1024, .f32⟩

abbrev hbmTy0_1 (i : Nat) : BufTy := match i % 128 with
  | 0 => ⟨S8x4096x1024, .f32⟩
  | 1 => ⟨S8x4096x1024, .f32⟩
  | 2 => ⟨S8x4096x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c : Ref sig .tc := ⟨.hbm, 39, rfl⟩
abbrev main_call0_v0 : Ref sig .tc := ⟨.hbm, 40, rfl⟩
abbrev main_v29 : Ref sig .tc := ⟨.hbm, 41, rfl⟩
abbrev main_v30 : Ref sig .tc := ⟨.hbm, 42, rfl⟩
abbrev main_c_2 : Ref sig .tc := ⟨.hbm, 43, rfl⟩
abbrev main_call1_v0 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_3 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_c_4 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_c_5 : Ref sig .tc := ⟨.hbm, 70, rfl⟩
abbrev main_v54 : Ref sig .tc := ⟨.hbm, 71, rfl⟩
abbrev main_v55 : Ref sig .tc := ⟨.hbm, 72, rfl⟩
abbrev main_c_6 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_c_7 : Ref sig .tc := ⟨.hbm, 84, rfl⟩
abbrev main_v66 : Ref sig .tc := ⟨.hbm, 85, rfl⟩
abbrev main_v67 : Ref sig .tc := ⟨.hbm, 86, rfl⟩
abbrev main_c_8 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_c_9 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_10 : Ref sig .tc := ⟨.hbm, 97, rfl⟩
abbrev main_call2_v0 : Ref sig .tc := ⟨.hbm, 98, rfl⟩
abbrev main_call2_v1 : Ref sig .tc := ⟨.hbm, 99, rfl⟩
abbrev main_call2_v2 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_11 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_cst_12 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩

abbrev nD : Nat := 1
abbrev τ : Topo := Topo.v7x

variable {F : FTy → Type} [FloatOps F]
-- ==== Mlp.lean ====
abbrev S8x4096x1024 : Shape := ⟨3, ![8, 4096, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S1x1024 : Shape := ⟨2, ![1, 1024]⟩
abbrev S32768x1024 : Shape := ⟨2, ![32768, 1024]⟩
abbrev S1024x1024 : Shape := ⟨2, ![1024, 1024]⟩
abbrev S1x1024x4096 : Shape := ⟨3, ![1, 1024, 4096]⟩
abbrev S1x4096x1024 : Shape := ⟨3, ![1, 4096, 1024]⟩
abbrev S1024x1 : Shape := ⟨2, ![1024, 1]⟩
abbrev S1x1024x1024 : Shape := ⟨3, ![1, 1024, 1024]⟩

abbrev nBuf : Space → Nat
  | .hbm => 13
  | .vmem => 8
  | .smem => 0
  | _ => 0

abbrev bufTy : (tb : Table) → Fin (tcTables nBuf tb) → BufTy
  | .hbm, ⟨0, _⟩ => ⟨S8x4096x1024, .f32⟩
  | .hbm, ⟨1, _⟩ => ⟨S2x1024, .f32⟩
  | .hbm, ⟨2, _⟩ => ⟨S2x1024x4096, .f32⟩
  | .hbm, ⟨3, _⟩ => ⟨S2x4096x1024, .f32⟩
  | .hbm, ⟨4, _⟩ => ⟨S1024, .f32⟩
  | .hbm, ⟨5, _⟩ => ⟨S2x1024x4096, .bf16⟩
  | .hbm, ⟨6, _⟩ => ⟨S2x4096x1024, .bf16⟩
  | .hbm, ⟨7, _⟩ => ⟨S1x1024, .f32⟩
  | .hbm, ⟨8, _⟩ => ⟨S1024, .f32⟩
  | .hbm, ⟨9, _⟩ => ⟨S32768x1024, .f32⟩
  | .hbm, ⟨10, _⟩ => ⟨S1x1024, .f32⟩
  | .hbm, ⟨11, _⟩ => ⟨S1x1024, .f32⟩
  | .hbm, ⟨12, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x4096, .bf16⟩
  | .local _ .vmem, ⟨4, _⟩ => ⟨S1x4096x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MlpRefIdeal.lean ====
abbrev S8x4096x1024 : Shape := ⟨3, ![8, 4096, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S1x1024 : Shape := ⟨2, ![1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S8x4096x4096 : Shape := ⟨3, ![8, 4096, 4096]⟩
abbrev S1x4096x1024 : Shape := ⟨3, ![1, 4096, 1024]⟩
abbrev S4096x1024 : Shape := ⟨2, ![4096, 1024]⟩
abbrev S32768x1024 : Shape := ⟨2, ![32768, 1024]⟩

abbrev nBuf : Space → Nat
  | .hbm => 51
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S2x1024, .f32⟩
  | .hbm, ⟨2, _⟩ => ⟨S2x1024x4096, .f32⟩
  | .hbm, ⟨3, _⟩ => ⟨S2x4096x1024, .f32⟩
  | .hbm, ⟨4, _⟩ => ⟨S1024, .f32⟩
  | .hbm, ⟨5, _⟩ => ⟨S1x1024, .f32⟩
  | .hbm, ⟨6, _⟩ => ⟨S1024, .f32⟩
  | .hbm, ⟨7, _⟩ => ⟨S8x4096x1024, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S8x4096x1, .f32⟩
  | .hbm, ⟨18, _⟩ => ⟨S8x4096x1024, .f32⟩
  | .hbm, ⟨19, _⟩ => ⟨S8x4096x1024, .f32⟩
  | .hbm, ⟨20, _⟩ => ⟨S1x1x1024, .f32⟩
  | .hbm, ⟨21, _⟩ => ⟨S8x4096x1024, .f32⟩
  | .hbm, ⟨22, _⟩ => ⟨S8x4096x1024, .f32⟩
  | .hbm, ⟨23, _⟩ => ⟨S1x1024x4096, .f32⟩
  | .hbm, ⟨24, _⟩ => ⟨S1024x4096, .f32⟩
  | .hbm, ⟨25, _⟩ => ⟨S8x4096x4096, .f32⟩
  | .hbm, ⟨26, _⟩ => ⟨S_, .f32⟩
  | .hbm, ⟨27, _⟩ => ⟨S8x4096x4096, .f32⟩
  | .hbm, ⟨28, _⟩ => ⟨S8x4096x4096, .f32⟩
  | .hbm, ⟨29, _⟩ => ⟨S8x4096x4096, .f32⟩
  | .hbm, ⟨30, _⟩ => ⟨S1x4096x1024, .f32⟩
  | .hbm, ⟨31, _⟩ => ⟨S4096x1024, .f32⟩
  | .hbm, ⟨32, _⟩ => ⟨S8x4096x1024, .f32⟩
  | .hbm, ⟨33, _⟩ => ⟨S8x4096x1024, .f32⟩
  | .hbm, ⟨34, _⟩ => ⟨S8x4096x1024, .f32⟩
  | .hbm, ⟨35, _⟩ => ⟨S_, .f32⟩
  | .hbm, ⟨36, _⟩ => ⟨S8x4096, .f32⟩
  | .hbm, ⟨37, _⟩ => ⟨S8x4096x1, .f32⟩
  | .hbm, ⟨38, _⟩ => ⟨S_, .f32⟩
  | .hbm, ⟨39, _⟩ => ⟨S8x4096x1, .f32⟩
  | .hbm, ⟨40, _⟩ => ⟨S8x4096x1, .f32⟩
  | .hbm, ⟨41, _⟩ => ⟨S_, .f32⟩
  | .hbm, ⟨42, _⟩ => ⟨S8x4096x1, .f32⟩
  | .hbm, ⟨43, _⟩ => ⟨S8x4096x1, .f32⟩
  | .hbm, ⟨44, _⟩ => ⟨S8x4096x1, .f32⟩
  | .hbm, ⟨45, _⟩ => ⟨S8x4096x1024, .f32⟩
  | .hbm, ⟨46, _⟩ => ⟨S8x4096x1024, .f32⟩
  | .hbm, ⟨47, _⟩ => ⟨S1x1x1024, .f32⟩
  | .hbm, ⟨48, _⟩ => ⟨S8x4096x1024, .f32⟩
  | .hbm, ⟨49, _⟩ => ⟨S8x4096x1024, .f32⟩
  | .hbm, ⟨50, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_cst : Ref sig .tc := ⟨.hbm, 26, rfl⟩
abbrev main_call0_v0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== MlpFirst.lean ====
abbrev S8x4096x1024 : Shape := ⟨3, ![8, 4096, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S1x1024 : Shape := ⟨2, ![1, 1024]⟩
abbrev S32768x1024 : Shape := ⟨2, ![32768, 1024]⟩
abbrev S1024x1024 : Shape := ⟨2, ![1024, 1024]⟩
abbrev S1x1024x4096 : Shape := ⟨3, ![1, 1024, 4096]⟩
abbrev S1x4096x1024 : Shape := ⟨3, ![1, 4096, 1024]⟩
abbrev S1024x1 : Shape := ⟨2, ![1024, 1]⟩
abbrev S1x1024x1024 : Shape := ⟨3, ![1, 1024, 1024]⟩

abbrev nBuf : Space → Nat
  | .hbm => 13
  | .vmem => 8
  | .smem => 0
  | _ => 0

abbrev bufTy : (tb : Table) → Fin (tcTables nBuf tb) → BufTy
  | .hbm, ⟨0, _⟩ => ⟨S8x4096x1024, .f32⟩
  | .hbm, ⟨1, _⟩ => ⟨S2x1024, .f32⟩
  | .hbm, ⟨2, _⟩ => ⟨S2x1024x4096, .f32⟩
  | .hbm, ⟨3, _⟩ => ⟨S2x4096x1024, .f32⟩
  | .hbm, ⟨4, _⟩ => ⟨S1024, .f32⟩
  | .hbm, ⟨5, _⟩ => ⟨S2x1024x4096, .bf16⟩
  | .hbm, ⟨6, _⟩ => ⟨S2x4096x1024, .bf16⟩
  | .hbm, ⟨7, _⟩ => ⟨S1x1024, .f32⟩
  | .hbm, ⟨8, _⟩ => ⟨S1024, .f32⟩
  | .hbm, ⟨9, _⟩ => ⟨S32768x1024, .f32⟩
  | .hbm, ⟨10, _⟩ => ⟨S1x1024, .f32⟩
  | .hbm, ⟨11, _⟩ => ⟨S1x1024, .f32⟩
  | .hbm, ⟨12, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x4096, .bf16⟩
  | .local _ .vmem, ⟨4, _⟩ => ⟨S1x4096x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MlpFirstRefIdeal.lean ====
abbrev S8x4096x1024 : Shape := ⟨3, ![8, 4096, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S1x1024 : Shape := ⟨2, ![1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S8x4096x4096 : Shape := ⟨3, ![8, 4096, 4096]⟩
abbrev S1x4096x1024 : Shape := ⟨3, ![1, 4096, 1024]⟩
abbrev S4096x1024 : Shape := ⟨2, ![4096, 1024]⟩
abbrev S32768x1024 : Shape := ⟨2, ![32768, 1024]⟩

abbrev nBuf : Space → Nat
  | .hbm => 35
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S2x1024, .f32⟩
  | .hbm, ⟨2, _⟩ => ⟨S2x1024x4096, .f32⟩
  | .hbm, ⟨3, _⟩ => ⟨S2x4096x1024, .f32⟩
  | .hbm, ⟨4, _⟩ => ⟨S1024, .f32⟩
  | .hbm, ⟨5, _⟩ => ⟨S1x1024, .f32⟩
  | .hbm, ⟨6, _⟩ => ⟨S1024, .f32⟩
  | .hbm, ⟨7, _⟩ => ⟨S8x4096x1024, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S8x4096x1, .f32⟩
  | .hbm, ⟨18, _⟩ => ⟨S8x4096x1024, .f32⟩
  | .hbm, ⟨19, _⟩ => ⟨S8x4096x1024, .f32⟩
  | .hbm, ⟨20, _⟩ => ⟨S1x1x1024, .f32⟩
  | .hbm, ⟨21, _⟩ => ⟨S8x4096x1024, .f32⟩
  | .hbm, ⟨22, _⟩ => ⟨S8x4096x1024, .f32⟩
  | .hbm, ⟨23, _⟩ => ⟨S1x1024x4096, .f32⟩
  | .hbm, ⟨24, _⟩ => ⟨S1024x4096, .f32⟩
  | .hbm, ⟨25, _⟩ => ⟨S8x4096x4096, .f32⟩
  | .hbm, ⟨26, _⟩ => ⟨S_, .f32⟩
  | .hbm, ⟨27, _⟩ => ⟨S8x4096x4096, .f32⟩
  | .hbm, ⟨28, _⟩ => ⟨S8x4096x4096, .f32⟩
  | .hbm, ⟨29, _⟩ => ⟨S8x4096x4096, .f32⟩
  | .hbm, ⟨30, _⟩ => ⟨S1x4096x1024, .f32⟩
  | .hbm, ⟨31, _⟩ => ⟨S4096x1024, .f32⟩
  | .hbm, ⟨32, _⟩ => ⟨S8x4096x1024, .f32⟩
  | .hbm, ⟨33, _⟩ => ⟨S8x4096x1024, .f32⟩
  | .hbm, ⟨34, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_cst : Ref sig .tc := ⟨.hbm, 26, rfl⟩
abbrev main_call0_v0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Proof.AttnTile.lean ====
/- The steps of the attention kernel's tile, each written once: the kernel repeats them over row chunks, key heads and blocks. -/
module

public import proofs.«01_k».proof.Proof.Gen.AttnIdeal.Skeleton
public import Idealize.ShloMosaic.Lib.Pointwise

@[expose] public section

set_option maxRecDepth 16384

noncomputable section

open Idealize.ShloMosaic Idealize.ShloMosaic.TcCoe Idealize.SL.Sem

namespace Cert.AttnIdeal.Tile

open Cert.AttnIdeal Cert.AttnIdeal.Gen

/-- 256 normalised rows. -/
def norm (x : Vec Ideal S1x256x1024 .f32) (g : Vec Ideal S1x1024 .f32) : FVec Ideal S256x1024 .bf16 :=
  let x' : FVec Ideal S256x1024 .f32 := shapeCast S256x1024 x shapeCasts_S1x256x1024_S256x1024
  let g' : FVec Ideal S1x1024 .f32 := shapeCast S1x1024 g shapeCasts_S1x1024_S1x1024
  let s : FVec Ideal S256 .f32 := multiReduction .add [1] S256 (mulf x' x') 0x00000000#32 reduces_S256x1024_S256 (.inl rfl) rfl
  let m : FVec Ideal S256x1 .f32 := divf (shapeCast S256x1 s shapeCasts_S256_S256x1) (broadcast S256x1 (Scalar.ofBits .f32 0x44800000#32))
  let v : FVec Ideal S256x1 .f32 := rsqrt (addf m (broadcast S256x1 (Scalar.ofBits .f32 0x3727C5AC#32)))
  truncf .bf16 (mulf (mulf x' (broadcastTo S256x1024 v broadcasts_S256x1_S256x1024)) (broadcastTo S256x1024 g' broadcasts_S1x1024_S256x1024)) bitsLt_bf16_f32

/-- Queries of 256 rows over 256 columns, in units of the score's base-2 exponent. -/
def query (y : FVec Ideal S256x1024 .bf16) (w : Vec Ideal S1024x256 .bf16) (b : Vec Ideal S1x256 .f32) : FVec Ideal S256x256 .bf16 :=
  let w' : FVec Ideal S1024x256 .bf16 := shapeCast S1024x256 w shapeCasts_S1024x256_S1024x256
  let p : FVec Ideal S256x256 .f32 := matmul dot_S256x1024_S1024x256_S256x256_1_0_0_1_n_n none y w' (constant S256x256 .f32 0x00000000#32)
  let b' : FVec Ideal S1x256 .f32 := shapeCast S1x256 b shapeCasts_S1x256_S1x256
  truncf .bf16 (mulf (addf p (broadcastTo S256x256 b' broadcasts_S1x256_S256x256)) (broadcast S256x256 (Named.named κ "log2e_8" 0x3E38AA3B#32))) bitsLt_bf16_f32

/-- One 128 by 128 tile of the queries. -/
def queryTile (y : FVec Ideal S256x1024 .bf16) (w : Vec Ideal S1024x256 .bf16) (b : Vec Ideal S1x256 .f32)
    (o : Fin 2 → ℕ) (h : S256x256.Slices o S128x128) : FVec Ideal S1x128x128 .bf16 :=
  shapeCast S1x128x128 (extractStridedSlice S128x128 o (query y w b) h) shapeCasts_S128x128_S1x128x128

/-- Scores of a band of 256 keys against 512 query rows. -/
def scores (k : Vec Ideal S1x256x128 .bf16) (q : Vec Ideal S1x512x128 .bf16) : FVec Ideal S256x512 .f32 :=
  let k' : FVec Ideal S256x128 .bf16 := shapeCast S256x128 k shapeCasts_S1x256x128_S256x128
  let q' : FVec Ideal S512x128 .bf16 := shapeCast S512x128 q shapeCasts_S1x512x128_S512x128
  matmul dot_S256x128_S512x128_S256x512_1_1_0_0_n_n none k' q' (constant S256x512 .f32 0x00000000#32)

/-- The scores of one head, masked. -/
def masked (s : FVec Ideal S256x512 .f32) (bias : FVec Ideal S256x128 .f32) (o : Fin 2 → ℕ) (h : S256x512.Slices o S256x128) :
    FVec Ideal S256x128 .f32 :=
  addf (extractStridedSlice S256x128 o s h) bias

/-- The head's constant score, in the same units. -/
def sinkOf (z : Elt Ideal .f32) : Ideal .f32 := Scalar.mulf z (Named.named κ "log2e" 0x3FB8AA3B#32)

/-- The largest score of each query, the constant one included. -/
def top (s : FVec Ideal S256x128 .f32) (z : Elt Ideal .f32) : FVec Ideal S1x128 .f32 :=
  maximumf (shapeCast S1x128 (multiReduction .maximumf [0] S128 s 0xFF800000#32 reduces_S256x128_S128 (.inl rfl) rfl) shapeCasts_S128_S1x128)
    (broadcast S1x128 (sinkOf z))

/-- The weights before division. -/
def weights (s : FVec Ideal S256x128 .f32) (z : Elt Ideal .f32) : FVec Ideal S256x128 .f32 :=
  exp2 (subf s (broadcastTo S256x128 (top s z) broadcasts_S1x128_S256x128))

/-- One over the sum of the weights. -/
def inverse (s : FVec Ideal S256x128 .f32) (z : Elt Ideal .f32) : FVec Ideal S1x128 .f32 :=
  let a : FVec Ideal S1x128 .f32 :=
    shapeCast S1x128 (multiReduction .add [0] S128 (weights s z) 0x00000000#32 reduces_S256x128_S128 (.inl rfl) rfl) shapeCasts_S128_S1x128
  let d : FVec Ideal S1x128 .f32 := addf a (exp2 (subf (broadcast S1x128 (sinkOf z)) (top s z)))
  divf (broadcast S1x128 (Scalar.ofBits .f32 0x3F800000#32)) d

/-- The weights as the product reads them. -/
def weightsB (s : FVec Ideal S256x128 .f32) (z : Elt Ideal .f32) : FVec Ideal S256x128 .bf16 := truncf .bf16 (weights s z) bitsLt_bf16_f32

/-- Eight blocks of weights side by side. -/
def besideW (p0 p1 p2 p3 p4 p5 p6 p7 : FVec Ideal S256x128 .bf16) : FVec Ideal S256x1024 .bf16 :=
  concatenate S256x1024 1 [⟨S256x128, p0⟩, ⟨S256x128, p1⟩, ⟨S256x128, p2⟩, ⟨S256x128, p3⟩, ⟨S256x128, p4⟩, ⟨S256x128, p5⟩, ⟨S256x128, p6⟩, ⟨S256x128, p7⟩] concatenates_S256x128_S256x128_S256x128_S256x128_S256x128_S256x128_S256x128_S256x128_S256x1024_d1

/-- Eight rows of factors side by side. -/
def besideI (p0 p1 p2 p3 p4 p5 p6 p7 : FVec Ideal S1x128 .f32) : FVec Ideal S1x1024 .f32 :=
  concatenate S1x1024 1 [⟨S1x128, p0⟩, ⟨S1x128, p1⟩, ⟨S1x128, p2⟩, ⟨S1x128, p3⟩, ⟨S1x128, p4⟩, ⟨S1x128, p5⟩, ⟨S1x128, p6⟩, ⟨S1x128, p7⟩] concatenates_S1x128_S1x128_S1x128_S1x128_S1x128_S1x128_S1x128_S1x128_S1x1024_d1

/-- The eight heads of one key head over one block of 128 queries. -/
def heads (bias : FVec Ideal S256x128 .f32) (ka kb : Vec Ideal S1x256x128 .bf16) (qa qb : Vec Ideal S1x512x128 .bf16)
    (v0 v1 : Vec Ideal S1x1x64x128 .bf16) (z0 z1 z2 z3 z4 z5 z6 z7 : Elt Ideal .f32) : FVec Ideal S64x1024 .f32 :=
  let s0 := masked (scores ka qa) bias ![0, 0] slices_S256x512_o0_0_S256x128
  let s1 := masked (scores ka qa) bias ![0, 128] slices_S256x512_o0_128_S256x128
  let s2 := masked (scores ka qa) bias ![0, 256] slices_S256x512_o0_256_S256x128
  let s3 := masked (scores ka qa) bias ![0, 384] slices_S256x512_o0_384_S256x128
  let s4 := masked (scores kb qb) bias ![0, 0] slices_S256x512_o0_0_S256x128
  let s5 := masked (scores kb qb) bias ![0, 128] slices_S256x512_o0_128_S256x128
  let s6 := masked (scores kb qb) bias ![0, 256] slices_S256x512_o0_256_S256x128
  let s7 := masked (scores kb qb) bias ![0, 384] slices_S256x512_o0_384_S256x128
  let v : FVec Ideal S64x256 .bf16 := concatenate S64x256 1 [⟨S64x128, shapeCast S64x128 v0 shapeCasts_S1x1x64x128_S64x128⟩, ⟨S64x128, shapeCast S64x128 v1 shapeCasts_S1x1x64x128_S64x128⟩] concatenates_S64x128_S64x128_S64x256_d1
  let p := besideW (weightsB s0 z0) (weightsB s1 z1) (weightsB s2 z2) (weightsB s3 z3) (weightsB s4 z4) (weightsB s5 z5) (weightsB s6 z6) (weightsB s7 z7)
  let i := besideI (inverse s0 z0) (inverse s1 z1) (inverse s2 z2) (inverse s3 z3) (inverse s4 z4) (inverse s5 z5) (inverse s6 z6) (inverse s7 z7)
  mulf (matmul dot_S64x256_S256x1024_S64x1024_1_0_0_1_n_n none v p (constant S64x1024 .f32 0x00000000#32)) (broadcastTo S64x1024 i broadcasts_S1x1024_S64x1024)

/-- The tile of the attention array holding one pair of heads. -/
def pairTile (o : FVec Ideal S64x1024 .f32) (a b : Fin 2 → ℕ) (ha : S64x1024.Slices a S64x128) (hb : S64x1024.Slices b S64x128) :
    FVec Ideal S128x128 .bf16 :=
  let p : FVec Ideal S128x128 .f32 := concatenate S128x128 0 [⟨S64x128, extractStridedSlice S64x128 a o ha⟩, ⟨S64x128, extractStridedSlice S64x128 b o hb⟩] concatenates_S64x128_S64x128_S128x128_d0
  shapeCast S128x128 (truncf .bf16 (transpose S128x128 [1, 0] p transposes_S128x128_p1_0_S128x128) bitsLt_bf16_f32 : FVec Ideal S128x128 .bf16) shapeCasts_S128x128_S128x128

/-- Keys of 256 rows, both key heads side by side. -/
def keys (y : FVec Ideal S256x1024 .bf16) (w : Vec Ideal S1024x128 .bf16) (b : Vec Ideal S1x128 .f32) : FVec Ideal S256x128 .f32 :=
  let w' : FVec Ideal S1024x128 .bf16 := shapeCast S1024x128 w shapeCasts_S1024x128_S1024x128
  let p : FVec Ideal S256x128 .f32 := matmul dot_S256x1024_S1024x128_S256x128_1_0_0_1_n_n none y w' (constant S256x128 .f32 0x00000000#32)
  let b' : FVec Ideal S1x128 .f32 := shapeCast S1x128 b shapeCasts_S1x128_S1x128
  addf p (broadcastTo S256x128 b' broadcasts_S1x128_S256x128)

/-- The keys with their two heads exchanged. -/
def swapped (k : FVec Ideal S256x128 .f32) : FVec Ideal S256x128 .f32 := dynamicRotate 1 64#32 none k rotates_S256x128_d1

/-- The lanes of the first head. -/
def low : IVec S256x128 1 :=
  let l : IVec S1x128 32 := iota .tc S1x128 32 [1] iota_S1x128_d1_w32
  let h : IVec S1x128 32 := broadcast S1x128 64#32
  broadcastTo S256x128 (shapeCast S1x128 (cmpi .slt l h) shapeCasts_S1x128_S1x128 : IVec S1x128 1) broadcasts_S1x128_S256x128

/-- Keys kept in the first half of the lanes only. -/
def keepLow (k : FVec Ideal S256x128 .f32) : FVec Ideal S1x256x128 .bf16 :=
  let s : FVec Ideal S256x128 .f32 := select low k (broadcast S256x128 (Scalar.ofBits .f32 0x00000000#32))
  shapeCast S1x256x128 (truncf .bf16 s bitsLt_bf16_f32 : FVec Ideal S256x128 .bf16) shapeCasts_S256x128_S1x256x128

/-- Keys kept in the second half of the lanes only. -/
def keepHigh (k : FVec Ideal S256x128 .f32) : FVec Ideal S1x256x128 .bf16 :=
  let s : FVec Ideal S256x128 .f32 := select low (broadcast S256x128 (Scalar.ofBits .f32 0x00000000#32)) k
  shapeCast S1x256x128 (truncf .bf16 s bitsLt_bf16_f32 : FVec Ideal S256x128 .bf16) shapeCasts_S256x128_S1x256x128

/-- Values of 256 rows, transposed. -/
def values (y : FVec Ideal S256x1024 .bf16) (w : Vec Ideal S128x1024 .bf16) (b : Vec Ideal S128x128 .f32) : FVec Ideal S128x256 .f32 :=
  let b' : FVec Ideal S128x128 .f32 := shapeCast S128x128 b shapeCasts_S128x128_S128x128
  let w' : FVec Ideal S128x1024 .bf16 := shapeCast S128x1024 w shapeCasts_S128x1024_S128x1024
  let p : FVec Ideal S128x256 .f32 := matmul dot_S128x1024_S256x1024_S128x256_1_1_0_0_n_n none w' y (constant S128x256 .f32 0x00000000#32)
  addf p (concatenate S128x256 1 [⟨S128x128, b'⟩, ⟨S128x128, b'⟩] concatenates_S128x128_S128x128_S128x256_d1)

/-- One head's values over one block. -/
def valueTile (v : FVec Ideal S128x256 .f32) (o : Fin 2 → ℕ) (h : S128x256.Slices o S64x128) : FVec Ideal S1x1x64x128 .bf16 :=
  shapeCast S1x1x64x128 (truncf .bf16 (extractStridedSlice S64x128 o v h) bitsLt_bf16_f32 : FVec Ideal S64x128 .bf16) shapeCasts_S64x128_S1x1x64x128

/-- The output over 256 rows and 256 columns. -/
def output (x : Vec Ideal S1x256x256 .f32) (a : Vec Ideal S256x1024 .bf16) (w : Vec Ideal S1024x256 .bf16) (b : Vec Ideal S1x256 .f32) :
    FVec Ideal S1x256x256 .f32 := k0_pay2 (F := Ideal) x a w b

end Cert.AttnIdeal.Tile

end
-- ==== Proof.AttnRun.lean ====
/- What the attention kernel stores over one tile, in order, as lists of pieces built from the steps of the tile. -/
module

public import proofs.«01_k».proof.Proof.AttnTile
public import Idealize.ShloMosaic.Lib.Pipeline.ValueKit

@[expose] public section

set_option maxRecDepth 16384

noncomputable section

open Idealize.ShloMosaic Idealize.ShloMosaic.TcCoe Idealize.SL.Sem

namespace Cert.AttnIdeal.Tile

open Cert.AttnIdeal Cert.AttnIdeal.Gen

/-- What the tile loads from its arguments: the constant scores, the rows in four chunks, the weights in column chunks, what the
    tile before left for the first keys and values, and the mask of the first block. -/
structure In where
  sink : Fin 16 → Elt Ideal .f32
  x : Fin 4 → Vec Ideal S1x256x1024 .f32
  g : Vec Ideal S1x1024 .f32
  wq : Fin 4 → Vec Ideal S1024x256 .bf16
  bq : Fin 4 → Vec Ideal S1x256 .f32
  wk : Vec Ideal S1024x128 .bf16
  bk : Vec Ideal S1x128 .f32
  wv : Vec Ideal S128x1024 .bf16
  bv : Vec Ideal S128x128 .f32
  xo : Fin 4 → Fin 4 → Vec Ideal S1x256x256 .f32
  wo : Fin 4 → Vec Ideal S1024x256 .bf16
  bo : Fin 4 → Vec Ideal S1x256 .f32
  kc : Vec Ideal S4x128x128 .bf16
  vc : Vec Ideal S2x1x64x128 .bf16
  b0 : FVec Ideal S256x128 .f32

variable (L : In)

/-- The normalised rows of chunk `p`. -/
def In.y (p : Fin 4) : FVec Ideal S256x1024 .bf16 := norm (L.x p) L.g

/-- A tile of the query scratch lies inside it. -/
theorem inb_q (i j : Fin 8) : ∀ a, (![i.val, 128 * j.val, 0] : Fin 3 → ℕ) a + S1x128x128.size a ≤ S8x1024x128.size a := by
  intro a; fin_cases a <;> simp <;> omega

/-- A block of keys lies inside the key scratch. -/
theorem inb_k (g : Fin 4) (b : Fin 8) : ∀ a, (![g.val, 128 * b.val, 0] : Fin 3 → ℕ) a + S1x256x128.size a ≤ S4x1152x128.size a := by
  intro a; fin_cases a <;> simp <;> omega

/-- A block of values lies inside the value scratch. -/
theorem inb_v (g : Fin 2) (b : Fin 9) : ∀ a, (![g.val, b.val, 0, 0] : Fin 4 → ℕ) a + S1x1x64x128.size a ≤ S2x9x64x128.size a := by
  intro a; fin_cases a <;> simp <;> omega

/-- Half the query tiles of a block lie inside the query scratch. -/
theorem inb_qs (i : Fin 8) (g : Fin 2) : ∀ a, (![i.val, 512 * g.val, 0] : Fin 3 → ℕ) a + S1x512x128.size a ≤ S8x1024x128.size a := by
  intro a; fin_cases a <;> simp <;> omega

/-- A tile of the attention scratch lies inside it. -/
theorem inb_a (i j : Fin 8) : ∀ a, (![128 * i.val, 128 * j.val] : Fin 2 → ℕ) a + S128x128.size a ≤ S1024x1024.size a := by
  intro a; fin_cases a <;> simp <;> omega

/-- Four tiles of queries: chunk `p` of the rows, column chunk `n`. -/
def qStep (p n : Fin 4) (l : List (View.Piece (Elt Ideal) S8x1024x128 .bf16)) : List (View.Piece (Elt Ideal) S8x1024x128 .bf16) :=
  ⟨Rect.unit ![2 * p.val + 1, 256 * n.val + 128, 0] S1x128x128.size (inb_q ⟨2 * p.val + 1, by omega⟩ ⟨2 * n.val + 1, by omega⟩ |> fun h => by
      intro a; have := h a; fin_cases a <;> simp at this ⊢ <;> omega),
    queryTile (L.y p) (L.wq n) (L.bq n) ![128, 128] slices_S256x256_o128_128_S128x128⟩ ::
  ⟨Rect.unit ![2 * p.val + 1, 256 * n.val, 0] S1x128x128.size (by intro a; fin_cases a <;> simp <;> omega),
    queryTile (L.y p) (L.wq n) (L.bq n) ![128, 0] slices_S256x256_o128_0_S128x128⟩ ::
  ⟨Rect.unit ![2 * p.val, 256 * n.val + 128, 0] S1x128x128.size (by intro a; fin_cases a <;> simp <;> omega),
    queryTile (L.y p) (L.wq n) (L.bq n) ![0, 128] slices_S256x256_o0_128_S128x128⟩ ::
  ⟨Rect.unit ![2 * p.val, 256 * n.val, 0] S1x128x128.size (by intro a; fin_cases a <;> simp <;> omega),
    queryTile (L.y p) (L.wq n) (L.bq n) ![0, 0] slices_S256x256_o0_0_S128x128⟩ :: l

/-- The query stores of chunk `p`, up to column chunk `n`. -/
def qChunk (p : Fin 4) (l : List (View.Piece (Elt Ideal) S8x1024x128 .bf16)) : ℕ → List (View.Piece (Elt Ideal) S8x1024x128 .bf16)
  | 0 => l
  | n + 1 => qStep L p (Fin.ofNat 4 n) (qChunk p l n)

/-- The query stores: `p` whole chunks and `n` column chunks of the next. -/
def qList (n : ℕ) : ℕ → List (View.Piece (Elt Ideal) S8x1024x128 .bf16)
  | 0 => qChunk L 0 [] n
  | p + 1 => qChunk L (Fin.ofNat 4 (p + 1)) (qList 4 p) n

/-- The four layouts of the keys of chunk `p`. -/
def kStep (p : Fin 4) (l : List (View.Piece (Elt Ideal) S4x1152x128 .bf16)) : List (View.Piece (Elt Ideal) S4x1152x128 .bf16) :=
  ⟨Rect.unit ![3, 256 * p.val + 128, 0] S1x256x128.size (by intro a; fin_cases a <;> simp <;> omega), keepHigh (keys (L.y p) L.wk L.bk)⟩ ::
  ⟨Rect.unit ![2, 256 * p.val + 128, 0] S1x256x128.size (by intro a; fin_cases a <;> simp <;> omega), keepLow (swapped (keys (L.y p) L.wk L.bk))⟩ ::
  ⟨Rect.unit ![1, 256 * p.val + 128, 0] S1x256x128.size (by intro a; fin_cases a <;> simp <;> omega), keepHigh (swapped (keys (L.y p) L.wk L.bk))⟩ ::
  ⟨Rect.unit ![0, 256 * p.val + 128, 0] S1x256x128.size (by intro a; fin_cases a <;> simp <;> omega), keepLow (keys (L.y p) L.wk L.bk)⟩ :: l

/-- The key stores after `p` chunks. -/
def kList : ℕ → List (View.Piece (Elt Ideal) S4x1152x128 .bf16)
  | 0 => [⟨Rect.unit ![0, 0, 0] S4x128x128.size (by decide), L.kc⟩]
  | p + 1 => kStep L (Fin.ofNat 4 p) (kList p)

/-- The value stores of chunk `p`. -/
def vStep (p : Fin 4) (l : List (View.Piece (Elt Ideal) S2x9x64x128 .bf16)) : List (View.Piece (Elt Ideal) S2x9x64x128 .bf16) :=
  ⟨Rect.unit ![1, 2 * p.val + 2, 0, 0] S1x1x64x128.size (by intro a; fin_cases a <;> simp <;> omega),
    valueTile (values (L.y p) L.wv L.bv) ![64, 128] slices_S128x256_o64_128_S64x128⟩ ::
  ⟨Rect.unit ![1, 2 * p.val + 1, 0, 0] S1x1x64x128.size (by intro a; fin_cases a <;> simp <;> omega),
    valueTile (values (L.y p) L.wv L.bv) ![64, 0] slices_S128x256_o64_0_S64x128⟩ ::
  ⟨Rect.unit ![0, 2 * p.val + 2, 0, 0] S1x1x64x128.size (by intro a; fin_cases a <;> simp <;> omega),
    valueTile (values (L.y p) L.wv L.bv) ![0, 128] slices_S128x256_o0_128_S64x128⟩ ::
  ⟨Rect.unit ![0, 2 * p.val + 1, 0, 0] S1x1x64x128.size (by intro a; fin_cases a <;> simp <;> omega),
    valueTile (values (L.y p) L.wv L.bv) ![0, 0] slices_S128x256_o0_0_S64x128⟩ :: l

/-- The value stores after `p` chunks. -/
def vList : ℕ → List (View.Piece (Elt Ideal) S2x9x64x128 .bf16)
  | 0 => [⟨Rect.unit ![0, 0, 0, 0] S2x1x64x128.size (by decide), L.vc⟩]
  | p + 1 => vStep L (Fin.ofNat 4 p) (vList p)

/-- The mask of a band: a query sees the 128 positions up to its own. -/
abbrev band : FVec Ideal S256x128 .f32 := k0_pay57 (F := Ideal)

/-- The store lists a step of the attention may read: nine of queries, four of keys, four of values. -/
structure Stored where
  q : Fin 9 → List (View.Piece (Elt Ideal) S8x1024x128 .bf16)
  k : Fin 4 → List (View.Piece (Elt Ideal) S4x1152x128 .bf16)
  v : Fin 4 → List (View.Piece (Elt Ideal) S2x9x64x128 .bf16)

/-- Column chunks stored, list by list of the queries. -/
def qN : Fin 9 → ℕ := ![4, 1, 2, 3, 4, 2, 4, 2, 4]

/-- Whole row chunks stored before them. -/
def qP : Fin 9 → ℕ := ![0, 1, 1, 1, 1, 2, 2, 3, 3]

/-- The lists as the tile makes them. -/
def stored : Stored where
  q j := qList L (qN j) (qP j)
  k j := kList L (j.val + 1)
  v j := vList L (j.val + 1)

variable (arg14 : Memref sig .tc .vmem S8x1024x128 .bf16) (arg15 : Memref sig .tc .vmem S4x1152x128 .bf16)
  (arg16 : Memref sig .tc .vmem S2x9x64x128 .bf16) (arg17 : Memref sig .tc .vmem S1024x1024 .bf16)

/-- The heads of key head `kv` over block `i`, from what is stored. -/
def headsOf (S : Stored) (i : Fin 8) (kv : Fin 2) (bias : FVec Ideal S256x128 .f32) (qa qb : Fin 9) (ka kb va vb : Fin 4) : FVec Ideal S64x1024 .f32 :=
  heads bias
    (arg15.view.readCov (S.k ka) (Rect.unit (s := S4x1152x128) ![2 * kv.val, 128 * i.val, 0] S1x256x128.size (by intro a; fin_cases a <;> simp <;> omega)).toLoadRect)
    (arg15.view.readCov (S.k kb) (Rect.unit (s := S4x1152x128) ![2 * kv.val + 1, 128 * i.val, 0] S1x256x128.size (by intro a; fin_cases a <;> simp <;> omega)).toLoadRect)
    (arg14.view.readCov (S.q qa) (Rect.unit (s := S8x1024x128) ![i.val, 512 * kv.val, 0] S1x512x128.size (inb_qs i kv)).toLoadRect)
    (arg14.view.readCov (S.q qb) (Rect.unit (s := S8x1024x128) ![i.val, 512 * kv.val, 0] S1x512x128.size (inb_qs i kv)).toLoadRect)
    (arg16.view.readCov (S.v va) (Rect.unit (s := S2x9x64x128) ![kv.val, i.val, 0, 0] S1x1x64x128.size (by intro a; fin_cases a <;> simp <;> omega)).toLoadRect)
    (arg16.view.readCov (S.v vb) (Rect.unit (s := S2x9x64x128) ![kv.val, i.val + 1, 0, 0] S1x1x64x128.size (by intro a; fin_cases a <;> simp <;> omega)).toLoadRect)
    (L.sink ⟨8 * kv.val, by omega⟩) (L.sink ⟨8 * kv.val + 2, by omega⟩) (L.sink ⟨8 * kv.val + 4, by omega⟩) (L.sink ⟨8 * kv.val + 6, by omega⟩)
    (L.sink ⟨8 * kv.val + 1, by omega⟩) (L.sink ⟨8 * kv.val + 3, by omega⟩) (L.sink ⟨8 * kv.val + 5, by omega⟩) (L.sink ⟨8 * kv.val + 7, by omega⟩)

/-- The four tiles one such step stores. -/
def aStep (o : FVec Ideal S64x1024 .f32) (i : Fin 8) (kv : Fin 2)
    (l : List (View.Piece (Elt Ideal) S1024x1024 .bf16)) : List (View.Piece (Elt Ideal) S1024x1024 .bf16) :=
  ⟨Rect.unit ![128 * i.val, 512 * kv.val + 384] S128x128.size (by intro a; fin_cases a <;> simp <;> omega),
    pairTile o ![0, 384] ![0, 896] slices_S64x1024_o0_384_S64x128 slices_S64x1024_o0_896_S64x128⟩ ::
  ⟨Rect.unit ![128 * i.val, 512 * kv.val + 256] S128x128.size (by intro a; fin_cases a <;> simp <;> omega),
    pairTile o ![0, 256] ![0, 768] slices_S64x1024_o0_256_S64x128 slices_S64x1024_o0_768_S64x128⟩ ::
  ⟨Rect.unit ![128 * i.val, 512 * kv.val + 128] S128x128.size (by intro a; fin_cases a <;> simp <;> omega),
    pairTile o ![0, 128] ![0, 640] slices_S64x1024_o0_128_S64x128 slices_S64x1024_o0_640_S64x128⟩ ::
  ⟨Rect.unit ![128 * i.val, 512 * kv.val] S128x128.size (by intro a; fin_cases a <;> simp <;> omega),
    pairTile o ![0, 0] ![0, 512] slices_S64x1024_o0_0_S64x128 slices_S64x1024_o0_512_S64x128⟩ :: l

/-- Which query lists each step reads: for the even heads and for the odd ones. -/
def qAt : Fin 16 → Fin 9 × Fin 9 :=
  ![(0, 0), (0, 1), (2, 3), (4, 4), (4, 4), (4, 5), (6, 6), (6, 6), (6, 6), (6, 7), (8, 8), (8, 8), (8, 8), (8, 8), (8, 8), (8, 8)]

/-- Which key lists each step reads. -/
def kAt : Fin 16 → Fin 4 × Fin 4 :=
  ![(0, 0), (0, 0), (0, 0), (0, 1), (1, 1), (1, 1), (1, 2), (2, 2), (2, 2), (2, 2), (2, 3), (3, 3), (3, 3), (3, 3), (3, 3), (3, 3)]

/-- Which value lists each step reads. -/
def vAt : Fin 16 → Fin 4 × Fin 4 :=
  ![(0, 0), (0, 0), (0, 0), (1, 1), (1, 1), (1, 1), (2, 2), (2, 2), (2, 2), (2, 2), (3, 3), (3, 3), (3, 3), (3, 3), (3, 3), (3, 3)]

/-- The mask of a step: the first block of the tile has its own. -/
def biasAt : Fin 16 → FVec Ideal S256x128 .f32 :=
  ![L.b0, L.b0, band, band, band, band, band, band, band, band, band, band, band, band, band, band]

/-- The heads of step `m`. -/
def headsAt (S : Stored) (m : Fin 16) : FVec Ideal S64x1024 .f32 :=
  headsOf L arg14 arg15 arg16 S ⟨m.val / 2, by omega⟩ ⟨m.val % 2, by omega⟩ (biasAt L m) (qAt m).1 (qAt m).2 (kAt m).1 (kAt m).2 (vAt m).1 (vAt m).2

/-- The attention stores after `m` steps. -/
def aList (S : Stored) : ℕ → List (View.Piece (Elt Ideal) S1024x1024 .bf16)
  | 0 => []
  | m + 1 => aStep (headsAt L arg14 arg15 arg16 S (Fin.ofNat 16 m)) ⟨(Fin.ofNat 16 m).val / 2, by omega⟩ ⟨(Fin.ofNat 16 m).val % 2, by omega⟩ (aList S m)

/-- How many attention steps have been stored when the output of row chunk `p`, column chunk `n` is computed. -/
def aAt : Fin 4 → Fin 4 → ℕ := ![![6, 6, 7, 7], ![10, 10, 11, 11], ![12, 12, 13, 13], ![16, 16, 16, 16]]

/-- One output store; `A` is the attention stored when it is computed. -/
def oPiece (A : List (View.Piece (Elt Ideal) S1024x1024 .bf16)) (p n : Fin 4) : View.Piece (Elt Ideal) S1x1024x1024 .f32 :=
  ⟨Rect.unit ![0, 256 * p.val, 256 * n.val] S1x256x256.size (by intro a; fin_cases a <;> simp <;> omega),
    output (L.xo p n) (arg17.view.readCov A (Rect.unit (s := S1024x1024) ![256 * p.val, 0] S256x1024.size (by intro a; fin_cases a <;> simp <;> omega)).toLoadRect)
      (L.wo n) (L.bo n)⟩

/-- The output stores, from the attention lists. -/
def oList (A : Fin 4 → Fin 4 → List (View.Piece (Elt Ideal) S1024x1024 .bf16)) : List (View.Piece (Elt Ideal) S1x1024x1024 .f32) :=
  [oPiece L arg17 (A 3 3) 3 3, oPiece L arg17 (A 3 2) 3 2, oPiece L arg17 (A 3 1) 3 1, oPiece L arg17 (A 3 0) 3 0,
   oPiece L arg17 (A 2 3) 2 3, oPiece L arg17 (A 2 2) 2 2, oPiece L arg17 (A 2 1) 2 1, oPiece L arg17 (A 2 0) 2 0,
   oPiece L arg17 (A 1 3) 1 3, oPiece L arg17 (A 1 2) 1 2, oPiece L arg17 (A 1 1) 1 1, oPiece L arg17 (A 1 0) 1 0,
   oPiece L arg17 (A 0 3) 0 3, oPiece L arg17 (A 0 2) 0 2, oPiece L arg17 (A 0 1) 0 1, oPiece L arg17 (A 0 0) 0 0]

end Cert.AttnIdeal.Tile

end
-- ==== Proof.AttnLoads.lean ====
/- What one tile of the attention kernel loads from its arguments. -/
module

public import proofs.«01_k».proof.Proof.Gen.AttnIdeal.Frame
public import proofs.«01_k».proof.Proof.AttnRun

@[expose] public section

set_option maxRecDepth 16384

noncomputable section

open Idealize.ShloMosaic Idealize.ShloMosaic.TcCoe Idealize.SL.Sem

namespace Cert.AttnIdeal.Tile

open Cert.AttnIdeal Cert.AttnIdeal.Gen

/-- One constant score lies among them. -/
theorem inb_sink (h : Fin 16) : ∀ a, (![h.val] : Fin 1 → ℕ) a + S1.size a ≤ S16.size a := by
  intro a; fin_cases a; have := h.isLt; simp; try omega

/-- One element is more than none. -/
theorem pos_S1 : 0 < S1.numel := by decide

variable (arg2 : Memref sig .tc .smem S16 .f32) (harg2 : arg2.IsWhole) (arg3 : Memref sig .tc .vmem S1x1024x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x128 .bf16) (harg7 : arg7.IsWhole) (arg8 : Memref sig .tc .vmem S1x128 .f32) (harg8 : arg8.IsWhole) (arg9 : Memref sig .tc .vmem S128x1024 .bf16) (harg9 : arg9.IsWhole) (arg10 : Memref sig .tc .vmem S128x128 .f32) (harg10 : arg10.IsWhole) (arg11 : Memref sig .tc .vmem S1024x1024 .bf16) (harg11 : arg11.IsWhole) (arg12 : Memref sig .tc .vmem S1x1024 .f32) (harg12 : arg12.IsWhole)
  (x0 : Vec Ideal S16 .f32) (x1 : Vec Ideal S1x1024x1024 .f32) (x2 : Vec Ideal S1x1024 .f32) (x3 : Vec Ideal S1024x1024 .bf16) (x4 : Vec Ideal S1x1024 .f32) (x5 : Vec Ideal S1024x128 .bf16) (x6 : Vec Ideal S1x128 .f32) (x7 : Vec Ideal S128x1024 .bf16) (x8 : Vec Ideal S128x128 .f32) (x9 : Vec Ideal S1024x1024 .bf16) (x10 : Vec Ideal S1x1024 .f32)

/-- The loads of one tile whose blocks are `x0` to `x10`, given what is carried and the first block's mask. -/
def loads (kc : Vec Ideal S4x128x128 .bf16) (vc : Vec Ideal S2x1x64x128 .bf16) (b0 : FVec Ideal S256x128 .f32) : In where
  sink h := View.readAt (Elt Ideal) arg2.view (Rect.unit (s := S16) ![h.val] S1.size (inb_sink h)).toLoadRect (harg2.unread x0) (Shape.Idx.first pos_S1)
  x p := View.readAt (Elt Ideal) arg3.view (Rect.unit (s := S1x1024x1024) ![0, 256 * p.val, 0] S1x256x1024.size (by intro a; fin_cases a <;> simp <;> omega)).toLoadRect (harg3.unread x1)
  g := View.readAt (Elt Ideal) arg4.view (Rect.unit (s := S1x1024) ![0, 0] S1x1024.size (by decide)).toLoadRect (harg4.unread x2)
  wq n := View.readAt (Elt Ideal) arg5.view (Rect.unit (s := S1024x1024) ![0, 256 * n.val] S1024x256.size (by intro a; fin_cases a <;> simp <;> omega)).toLoadRect (harg5.unread x3)
  bq n := View.readAt (Elt Ideal) arg6.view (Rect.unit (s := S1x1024) ![0, 256 * n.val] S1x256.size (by intro a; fin_cases a <;> simp <;> omega)).toLoadRect (harg6.unread x4)
  wk := View.readAt (Elt Ideal) arg7.view (Rect.unit (s := S1024x128) ![0, 0] S1024x128.size (by decide)).toLoadRect (harg7.unread x5)
  bk := View.readAt (Elt Ideal) arg8.view (Rect.unit (s := S1x128) ![0, 0] S1x128.size (by decide)).toLoadRect (harg8.unread x6)
  wv := View.readAt (Elt Ideal) arg9.view (Rect.unit (s := S128x1024) ![0, 0] S128x1024.size (by decide)).toLoadRect (harg9.unread x7)
  bv := View.readAt (Elt Ideal) arg10.view (Rect.unit (s := S128x128) ![0, 0] S128x128.size (by decide)).toLoadRect (harg10.unread x8)
  xo p n := View.readAt (Elt Ideal) arg3.view (Rect.unit (s := S1x1024x1024) ![0, 256 * p.val, 256 * n.val] S1x256x256.size (by intro a; fin_cases a <;> simp <;> omega)).toLoadRect (harg3.unread x1)
  wo n := View.readAt (Elt Ideal) arg11.view (Rect.unit (s := S1024x1024) ![0, 256 * n.val] S1024x256.size (by intro a; fin_cases a <;> simp <;> omega)).toLoadRect (harg11.unread x9)
  bo n := View.readAt (Elt Ideal) arg12.view (Rect.unit (s := S1x1024) ![0, 256 * n.val] S1x256.size (by intro a; fin_cases a <;> simp <;> omega)).toLoadRect (harg12.unread x10)
  kc := kc
  vc := vc
  b0 := b0

end Cert.AttnIdeal.Tile

end
-- ==== Proof.AttnRunA.lean ====
/- The stores of the generated run of a tile that starts a sequence are the lists of the tile. -/
module

public import proofs.«01_k».proof.Proof.Gen.AttnIdeal.Frame
public import proofs.«01_k».proof.Proof.AttnLoads

@[expose] public section

set_option maxRecDepth 16384

noncomputable section

open Idealize.ShloMosaic Idealize.ShloMosaic.TcCoe Idealize.SL.Sem

namespace Cert.AttnIdeal.Tile.A

open Cert.AttnIdeal Cert.AttnIdeal.Gen

variable (arg14 : Memref sig .tc .vmem S8x1024x128 .bf16) (arg15 : Memref sig .tc .vmem S4x1152x128 .bf16)
  (arg16 : Memref sig .tc .vmem S2x9x64x128 .bf16) (arg17 : Memref sig .tc .vmem S1024x1024 .bf16)
variable (c : Dev nD) (i : grid0.Coords) (arg2 : Memref sig .tc .smem S16 .f32) (harg2 : arg2.IsWhole) (arg3 : Memref sig .tc .vmem S1x1024x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x128 .bf16) (harg7 : arg7.IsWhole) (arg8 : Memref sig .tc .vmem S1x128 .f32) (harg8 : arg8.IsWhole) (arg9 : Memref sig .tc .vmem S128x1024 .bf16) (harg9 : arg9.IsWhole) (arg10 : Memref sig .tc .vmem S128x128 .f32) (harg10 : arg10.IsWhole) (arg11 : Memref sig .tc .vmem S1024x1024 .bf16) (harg11 : arg11.IsWhole) (arg12 : Memref sig .tc .vmem S1x1024 .f32) (harg12 : arg12.IsWhole)
  (x0 : Vec Ideal S16 .f32) (x1 : Vec Ideal S1x1024x1024 .f32) (x2 : Vec Ideal S1x1024 .f32) (x3 : Vec Ideal S1024x1024 .bf16) (x4 : Vec Ideal S1x1024 .f32) (x5 : Vec Ideal S1024x128 .bf16) (x6 : Vec Ideal S1x128 .f32) (x7 : Vec Ideal S128x1024 .bf16) (x8 : Vec Ideal S128x128 .f32) (x9 : Vec Ideal S1024x1024 .bf16) (x10 : Vec Ideal S1x1024 .f32)

/-- The loads of a tile that starts a sequence: zeros are carried. -/
abbrev ins : In := loads arg2 harg2 arg3 harg3 arg4 harg4 arg5 harg5 arg6 harg6 arg7 harg7 arg8 harg8 arg9 harg9 arg10 harg10 arg11 harg11 arg12 harg12 x0 x1 x2 x3 x4 x5 x6 x7 x8 x9 x10
  (kernelRun0_A.sl.v4389 (F := Ideal)) (kernelRun0_A.sl.v4393 (F := Ideal)) (kernelRun0_A.sl.v275 (F := Ideal) i)

/-- The lists of queries, keys and values of the run. -/
def words : Stored := ⟨![kernelRun0_A.sl.HS0_16 (F := Ideal) c arg3 harg3 arg4 harg4 arg5 harg5 arg6 harg6 x1 x2 x3 x4, kernelRun0_A.sl.HS0_20 (F := Ideal) c arg3 harg3 arg4 harg4 arg5 harg5 arg6 harg6 x1 x2 x3 x4, kernelRun0_A.sl.HS0_24 (F := Ideal) c arg3 harg3 arg4 harg4 arg5 harg5 arg6 harg6 x1 x2 x3 x4, kernelRun0_A.sl.HS0_28 (F := Ideal) c arg3 harg3 arg4 harg4 arg5 harg5 arg6 harg6 x1 x2 x3 x4, kernelRun0_A.sl.HS0_32 (F := Ideal) c arg3 harg3 arg4 harg4 arg5 harg5 arg6 harg6 x1 x2 x3 x4, kernelRun0_A.sl.HS0_40 (F := Ideal) c arg3 harg3 arg4 harg4 arg5 harg5 arg6 harg6 x1 x2 x3 x4, kernelRun0_A.sl.HS0_48 (F := Ideal) c arg3 harg3 arg4 harg4 arg5 harg5 arg6 harg6 x1 x2 x3 x4, kernelRun0_A.sl.HS0_56 (F := Ideal) c arg3 harg3 arg4 harg4 arg5 harg5 arg6 harg6 x1 x2 x3 x4, kernelRun0_A.sl.HS0_64 (F := Ideal) c arg3 harg3 arg4 harg4 arg5 harg5 arg6 harg6 x1 x2 x3 x4],
  ![kernelRun0_A.sl.HS1_5 (F := Ideal) c arg3 harg3 arg4 harg4 arg7 harg7 arg8 harg8 x1 x2 x5 x6, kernelRun0_A.sl.HS1_9 (F := Ideal) c arg3 harg3 arg4 harg4 arg7 harg7 arg8 harg8 x1 x2 x5 x6, kernelRun0_A.sl.HS1_13 (F := Ideal) c arg3 harg3 arg4 harg4 arg7 harg7 arg8 harg8 x1 x2 x5 x6, kernelRun0_A.sl.HS1_17 (F := Ideal) c arg3 harg3 arg4 harg4 arg7 harg7 arg8 harg8 x1 x2 x5 x6],
  ![kernelRun0_A.sl.HS2_5 (F := Ideal) c arg3 harg3 arg4 harg4 arg9 harg9 arg10 harg10 x1 x2 x7 x8, kernelRun0_A.sl.HS2_9 (F := Ideal) c arg3 harg3 arg4 harg4 arg9 harg9 arg10 harg10 x1 x2 x7 x8, kernelRun0_A.sl.HS2_13 (F := Ideal) c arg3 harg3 arg4 harg4 arg9 harg9 arg10 harg10 x1 x2 x7 x8, kernelRun0_A.sl.HS2_17 (F := Ideal) c arg3 harg3 arg4 harg4 arg9 harg9 arg10 harg10 x1 x2 x7 x8]⟩

/-- The attention lists of the run. -/
def attnWords : Fin 4 → Fin 4 → List (View.Piece (Elt Ideal) S1024x1024 .bf16) :=
  ![![kernelRun0_A.sl.HS3_24 (F := Ideal) c i arg2 harg2 arg3 harg3 arg4 harg4 arg5 harg5 arg6 harg6 arg7 harg7 arg8 harg8 arg9 harg9 arg10 harg10 arg14 arg15 arg16 x0 x1 x2 x3 x4 x5 x6 x7 x8,
      kernelRun0_A.sl.HS3_24 (F := Ideal) c i arg2 harg2 arg3 harg3 arg4 harg4 arg5 harg5 arg6 harg6 arg7 harg7 arg8 harg8 arg9 harg9 arg10 harg10 arg14 arg15 arg16 x0 x1 x2 x3 x4 x5 x6 x7 x8,
      kernelRun0_A.sl.HS3_28 (F := Ideal) c i arg2 harg2 arg3 harg3 arg4 harg4 arg5 harg5 arg6 harg6 arg7 harg7 arg8 harg8 arg9 harg9 arg10 harg10 arg14 arg15 arg16 x0 x1 x2 x3 x4 x5 x6 x7 x8,
      kernelRun0_A.sl.HS3_28 (F := Ideal) c i arg2 harg2 arg3 harg3 arg4 harg4 arg5 harg5 arg6 harg6 arg7 harg7 arg8 harg8 arg9 harg9 arg10 harg10 arg14 arg15 arg16 x0 x1 x2 x3 x4 x5 x6 x7 x8],
    ![kernelRun0_A.sl.HS3_40 (F := Ideal) c i arg2 harg2 arg3 harg3 arg4 harg4 arg5 harg5 arg6 harg6 arg7 harg7 arg8 harg8 arg9 harg9 arg10 harg10 arg14 arg15 arg16 x0 x1 x2 x3 x4 x5 x6 x7 x8,
      kernelRun0_A.sl.HS3_40 (F := Ideal) c i arg2 harg2 arg3 harg3 arg4 harg4 arg5 harg5 arg6 harg6 arg7 harg7 arg8 harg8 arg9 harg9 arg10 harg10 arg14 arg15 arg16 x0 x1 x2 x3 x4 x5 x6 x7 x8,
      kernelRun0_A.sl.HS3_44 (F := Ideal) c i arg2 harg2 arg3 harg3 arg4 harg4 arg5 harg5 arg6 harg6 arg7 harg7 arg8 harg8 arg9 harg9 arg10 harg10 arg14 arg15 arg16 x0 x1 x2 x3 x4 x5 x6 x7 x8,
      kernelRun0_A.sl.HS3_44 (F := Ideal) c i arg2 harg2 arg3 harg3 arg4 harg4 arg5 harg5 arg6 harg6 arg7 harg7 arg8 harg8 arg9 harg9 arg10 harg10 arg14 arg15 arg16 x0 x1 x2 x3 x4 x5 x6 x7 x8],
    ![kernelRun0_A.sl.HS3_48 (F := Ideal) c i arg2 harg2 arg3 harg3 arg4 harg4 arg5 harg5 arg6 harg6 arg7 harg7 arg8 harg8 arg9 harg9 arg10 harg10 arg14 arg15 arg16 x0 x1 x2 x3 x4 x5 x6 x7 x8,
      kernelRun0_A.sl.HS3_48 (F := Ideal) c i arg2 harg2 arg3 harg3 arg4 harg4 arg5 harg5 arg6 harg6 arg7 harg7 arg8 harg8 arg9 harg9 arg10 harg10 arg14 arg15 arg16 x0 x1 x2 x3 x4 x5 x6 x7 x8,
      kernelRun0_A.sl.HS3_52 (F := Ideal) c i arg2 harg2 arg3 harg3 arg4 harg4 arg5 harg5 arg6 harg6 arg7 harg7 arg8 harg8 arg9 harg9 arg10 harg10 arg14 arg15 arg16 x0 x1 x2 x3 x4 x5 x6 x7 x8,
      kernelRun0_A.sl.HS3_52 (F := Ideal) c i arg2 harg2 arg3 harg3 arg4 harg4 arg5 harg5 arg6 harg6 arg7 harg7 arg8 harg8 arg9 harg9 arg10 harg10 arg14 arg15 arg16 x0 x1 x2 x3 x4 x5 x6 x7 x8],
    ![kernelRun0_A.sl.HS3_64 (F := Ideal) c i arg2 harg2 arg3 harg3 arg4 harg4 arg5 harg5 arg6 harg6 arg7 harg7 arg8 harg8 arg9 harg9 arg10 harg10 arg14 arg15 arg16 x0 x1 x2 x3 x4 x5 x6 x7 x8,
      kernelRun0_A.sl.HS3_64 (F := Ideal) c i arg2 harg2 arg3 harg3 arg4 harg4 arg5 harg5 arg6 harg6 arg7 harg7 arg8 harg8 arg9 harg9 arg10 harg10 arg14 arg15 arg16 x0 x1 x2 x3 x4 x5 x6 x7 x8,
      kernelRun0_A.sl.HS3_64 (F := Ideal) c i arg2 harg2 arg3 harg3 arg4 harg4 arg5 harg5 arg6 harg6 arg7 harg7 arg8 harg8 arg9 harg9 arg10 harg10 arg14 arg15 arg16 x0 x1 x2 x3 x4 x5 x6 x7 x8,
      kernelRun0_A.sl.HS3_64 (F := Ideal) c i arg2 harg2 arg3 harg3 arg4 harg4 arg5 harg5 arg6 harg6 arg7 harg7 arg8 harg8 arg9 harg9 arg10 harg10 arg14 arg15 arg16 x0 x1 x2 x3 x4 x5 x6 x7 x8]]

/-- The last of them, over the run's own lists. -/
theorem attn_words : kernelRun0_A.sl.HS3_64 (F := Ideal) c i arg2 harg2 arg3 harg3 arg4 harg4 arg5 harg5 arg6 harg6 arg7 harg7 arg8 harg8 arg9 harg9 arg10 harg10 arg14 arg15 arg16 x0 x1 x2 x3 x4 x5 x6 x7 x8
    = aList (ins i arg2 harg2 arg3 harg3 arg4 harg4 arg5 harg5 arg6 harg6 arg7 harg7 arg8 harg8 arg9 harg9 arg10 harg10 arg11 harg11 arg12 harg12 x0 x1 x2 x3 x4 x5 x6 x7 x8 x9 x10) arg14 arg15 arg16 (words c arg3 harg3 arg4 harg4 arg5 harg5 arg6 harg6 arg7 harg7 arg8 harg8 arg9 harg9 arg10 harg10 x1 x2 x3 x4 x5 x6 x7 x8) 16 := by
  sl_kernel_rfl

/-- The run's lists of queries, keys and values are the tile's. -/
theorem words_eq : (words c arg3 harg3 arg4 harg4 arg5 harg5 arg6 harg6 arg7 harg7 arg8 harg8 arg9 harg9 arg10 harg10 x1 x2 x3 x4 x5 x6 x7 x8) = stored (ins i arg2 harg2 arg3 harg3 arg4 harg4 arg5 harg5 arg6 harg6 arg7 harg7 arg8 harg8 arg9 harg9 arg10 harg10 arg11 harg11 arg12 harg12 x0 x1 x2 x3 x4 x5 x6 x7 x8 x9 x10) := by
  refine congr (congr (congrArg Stored.mk ?_) ?_) ?_ <;> funext j <;> fin_cases j <;> sl_kernel_rfl

/-- The run's attention lists are the first so many steps of the tile. -/
theorem attn_eq : (attnWords arg14 arg15 arg16 c i arg2 harg2 arg3 harg3 arg4 harg4 arg5 harg5 arg6 harg6 arg7 harg7 arg8 harg8 arg9 harg9 arg10 harg10 x0 x1 x2 x3 x4 x5 x6 x7 x8) = fun p n => aList (ins i arg2 harg2 arg3 harg3 arg4 harg4 arg5 harg5 arg6 harg6 arg7 harg7 arg8 harg8 arg9 harg9 arg10 harg10 arg11 harg11 arg12 harg12 x0 x1 x2 x3 x4 x5 x6 x7 x8 x9 x10) arg14 arg15 arg16 (stored (ins i arg2 harg2 arg3 harg3 arg4 harg4 arg5 harg5 arg6 harg6 arg7 harg7 arg8 harg8 arg9 harg9 arg10 harg10 arg11 harg11 arg12 harg12 x0 x1 x2 x3 x4 x5 x6 x7 x8 x9 x10)) (aAt p n) := by
  rw [← words_eq]
  funext p n
  have h := attn_words arg14 arg15 arg16 c i arg2 harg2 arg3 harg3 arg4 harg4 arg5 harg5 arg6 harg6 arg7 harg7 arg8 harg8 arg9 harg9 arg10 harg10 arg11 harg11 arg12 harg12 x0 x1 x2 x3 x4 x5 x6 x7 x8 x9 x10
  fin_cases p <;> fin_cases n
  · exact congrArg (List.drop 40) h
  · exact congrArg (List.drop 40) h
  · exact congrArg (List.drop 36) h
  · exact congrArg (List.drop 36) h
  · exact congrArg (List.drop 24) h
  · exact congrArg (List.drop 24) h
  · exact congrArg (List.drop 20) h
  · exact congrArg (List.drop 20) h
  · exact congrArg (List.drop 16) h
  · exact congrArg (List.drop 16) h
  · exact congrArg (List.drop 12) h
  · exact congrArg (List.drop 12) h
  all_goals exact h

variable (arg13 : Memref sig .tc .vmem S1x1024x1024 .f32) (harg13 : arg13.IsWhole) (harg14 : arg14.IsWhole) (harg15 : arg15.IsWhole) (harg16 : arg16.IsWhole) (harg17 : arg17.IsWhole)
  (hc0 : cond0_0 i) (hc1 : ¬cond0_1 i)

/-- The keys the run stores. -/
theorem keys_eq : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10).2.1 = kList (ins i arg2 harg2 arg3 harg3 arg4 harg4 arg5 harg5 arg6 harg6 arg7 harg7 arg8 harg8 arg9 harg9 arg10 harg10 arg11 harg11 arg12 harg12 x0 x1 x2 x3 x4 x5 x6 x7 x8 x9 x10) 4 := by
  sl_kernel_rfl

/-- The values the run stores. -/
theorem values_eq : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10).2.2.1 = vList (ins i arg2 harg2 arg3 harg3 arg4 harg4 arg5 harg5 arg6 harg6 arg7 harg7 arg8 harg8 arg9 harg9 arg10 harg10 arg11 harg11 arg12 harg12 x0 x1 x2 x3 x4 x5 x6 x7 x8 x9 x10) 4 := by
  sl_kernel_rfl

/-- The output the run stores. -/
theorem out_eq : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10).1
    = oList (ins i arg2 harg2 arg3 harg3 arg4 harg4 arg5 harg5 arg6 harg6 arg7 harg7 arg8 harg8 arg9 harg9 arg10 harg10 arg11 harg11 arg12 harg12 x0 x1 x2 x3 x4 x5 x6 x7 x8 x9 x10) arg17 (attnWords arg14 arg15 arg16 c i arg2 harg2 arg3 harg3 arg4 harg4 arg5 harg5 arg6 harg6 arg7 harg7 arg8 harg8 arg9 harg9 arg10 harg10 x0 x1 x2 x3 x4 x5 x6 x7 x8) := by
  sl_kernel_rfl

end Cert.AttnIdeal.Tile.A

end
-- ==== Proof.AttnRunB.lean ====
/- The stores of the generated run of a tile that continues a sequence are the lists of the tile. -/
module

public import proofs.«01_k».proof.Proof.Gen.AttnIdeal.Frame
public import proofs.«01_k».proof.Proof.AttnLoads

@[expose] public section

set_option maxRecDepth 16384

noncomputable section

open Idealize.ShloMosaic Idealize.ShloMosaic.TcCoe Idealize.SL.Sem

namespace Cert.AttnIdeal.Tile.B

open Cert.AttnIdeal Cert.AttnIdeal.Gen

variable (arg14 : Memref sig .tc .vmem S8x1024x128 .bf16) (arg15 : Memref sig .tc .vmem S4x1152x128 .bf16)
  (arg16 : Memref sig .tc .vmem S2x9x64x128 .bf16) (arg17 : Memref sig .tc .vmem S1024x1024 .bf16)
variable (c : Dev nD) (i : grid0.Coords) (arg2 : Memref sig .tc .smem S16 .f32) (harg2 : arg2.IsWhole) (arg3 : Memref sig .tc .vmem S1x1024x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x128 .bf16) (harg7 : arg7.IsWhole) (arg8 : Memref sig .tc .vmem S1x128 .f32) (harg8 : arg8.IsWhole) (arg9 : Memref sig .tc .vmem S128x1024 .bf16) (harg9 : arg9.IsWhole) (arg10 : Memref sig .tc .vmem S128x128 .f32) (harg10 : arg10.IsWhole) (arg11 : Memref sig .tc .vmem S1024x1024 .bf16) (harg11 : arg11.IsWhole) (arg12 : Memref sig .tc .vmem S1x1024 .f32) (harg12 : arg12.IsWhole)
  (x0 : Vec Ideal S16 .f32) (x1 : Vec Ideal S1x1024x1024 .f32) (x2 : Vec Ideal S1x1024 .f32) (x3 : Vec Ideal S1024x1024 .bf16) (x4 : Vec Ideal S1x1024 .f32) (x5 : Vec Ideal S1024x128 .bf16) (x6 : Vec Ideal S1x128 .f32) (x7 : Vec Ideal S128x1024 .bf16) (x8 : Vec Ideal S128x128 .f32) (x9 : Vec Ideal S1024x1024 .bf16) (x10 : Vec Ideal S1x1024 .f32)

variable (xs1 : Vec Ideal S4x1152x128 .bf16) (xs2 : Vec Ideal S2x9x64x128 .bf16)
variable (harg15 : arg15.IsWhole) (harg16 : arg16.IsWhole)

/-- The loads of a tile that continues a sequence: the last keys and values of the tile before are carried. -/
abbrev ins : In := loads arg2 harg2 arg3 harg3 arg4 harg4 arg5 harg5 arg6 harg6 arg7 harg7 arg8 harg8 arg9 harg9 arg10 harg10 arg11 harg11 arg12 harg12 x0 x1 x2 x3 x4 x5 x6 x7 x8 x9 x10
  (kernelRun0_B.sl.v4389 (F := Ideal) c arg15 harg15 xs1) (kernelRun0_B.sl.v4394 (F := Ideal) c arg16 harg16 xs2) (kernelRun0_B.sl.v275 (F := Ideal) i)

/-- The lists of queries, keys and values of the run. -/
def words : Stored := ⟨![kernelRun0_B.sl.HS0_16 (F := Ideal) c arg3 harg3 arg4 harg4 arg5 harg5 arg6 harg6 x1 x2 x3 x4, kernelRun0_B.sl.HS0_20 (F := Ideal) c arg3 harg3 arg4 harg4 arg5 harg5 arg6 harg6 x1 x2 x3 x4, kernelRun0_B.sl.HS0_24 (F := Ideal) c arg3 harg3 arg4 harg4 arg5 harg5 arg6 harg6 x1 x2 x3 x4, kernelRun0_B.sl.HS0_28 (F := Ideal) c arg3 harg3 arg4 harg4 arg5 harg5 arg6 harg6 x1 x2 x3 x4, kernelRun0_B.sl.HS0_32 (F := Ideal) c arg3 harg3 arg4 harg4 arg5 harg5 arg6 harg6 x1 x2 x3 x4, kernelRun0_B.sl.HS0_40 (F := Ideal) c arg3 harg3 arg4 harg4 arg5 harg5 arg6 harg6 x1 x2 x3 x4, kernelRun0_B.sl.HS0_48 (F := Ideal) c arg3 harg3 arg4 harg4 arg5 harg5 arg6 harg6 x1 x2 x3 x4, kernelRun0_B.sl.HS0_56 (F := Ideal) c arg3 harg3 arg4 harg4 arg5 harg5 arg6 harg6 x1 x2 x3 x4, kernelRun0_B.sl.HS0_64 (F := Ideal) c arg3 harg3 arg4 harg4 arg5 harg5 arg6 harg6 x1 x2 x3 x4],
  ![kernelRun0_B.sl.HS1_5 (F := Ideal) c arg3 harg3 arg4 harg4 arg7 harg7 arg8 harg8 arg15 harg15 x1 x2 x5 x6 xs1, kernelRun0_B.sl.HS1_9 (F := Ideal) c arg3 harg3 arg4 harg4 arg7 harg7 arg8 harg8 arg15 harg15 x1 x2 x5 x6 xs1, kernelRun0_B.sl.HS1_13 (F := Ideal) c arg3 harg3 arg4 harg4 arg7 harg7 arg8 harg8 arg15 harg15 x1 x2 x5 x6 xs1, kernelRun0_B.sl.HS1_17 (F := Ideal) c arg3 harg3 arg4 harg4 arg7 harg7 arg8 harg8 arg15 harg15 x1 x2 x5 x6 xs1],
  ![kernelRun0_B.sl.HS2_5 (F := Ideal) c arg3 harg3 arg4 harg4 arg9 harg9 arg10 harg10 arg16 harg16 x1 x2 x7 x8 xs2, kernelRun0_B.sl.HS2_9 (F := Ideal) c arg3 harg3 arg4 harg4 arg9 harg9 arg10 harg10 arg16 harg16 x1 x2 x7 x8 xs2, kernelRun0_B.sl.HS2_13 (F := Ideal) c arg3 harg3 arg4 harg4 arg9 harg9 arg10 harg10 arg16 harg16 x1 x2 x7 x8 xs2, kernelRun0_B.sl.HS2_17 (F := Ideal) c arg3 harg3 arg4 harg4 arg9 harg9 arg10 harg10 arg16 harg16 x1 x2 x7 x8 xs2]⟩

/-- The attention lists of the run. -/
def attnWords : Fin 4 → Fin 4 → List (View.Piece (Elt Ideal) S1024x1024 .bf16) :=
  ![![kernelRun0_B.sl.HS3_24 (F := Ideal) c i arg2 harg2 arg3 harg3 arg4 harg4 arg5 harg5 arg6 harg6 arg7 harg7 arg8 harg8 arg9 harg9 arg10 harg10 arg14 arg15 harg15 arg16 harg16 x0 x1 x2 x3 x4 x5 x6 x7 x8 xs1 xs2,
      kernelRun0_B.sl.HS3_24 (F := Ideal) c i arg2 harg2 arg3 harg3 arg4 harg4 arg5 harg5 arg6 harg6 arg7 harg7 arg8 harg8 arg9 harg9 arg10 harg10 arg14 arg15 harg15 arg16 harg16 x0 x1 x2 x3 x4 x5 x6 x7 x8 xs1 xs2,
      kernelRun0_B.sl.HS3_28 (F := Ideal) c i arg2 harg2 arg3 harg3 arg4 harg4 arg5 harg5 arg6 harg6 arg7 harg7 arg8 harg8 arg9 harg9 arg10 harg10 arg14 arg15 harg15 arg16 harg16 x0 x1 x2 x3 x4 x5 x6 x7 x8 xs1 xs2,
      kernelRun0_B.sl.HS3_28 (F := Ideal) c i arg2 harg2 arg3 harg3 arg4 harg4 arg5 harg5 arg6 harg6 arg7 harg7 arg8 harg8 arg9 harg9 arg10 harg10 arg14 arg15 harg15 arg16 harg16 x0 x1 x2 x3 x4 x5 x6 x7 x8 xs1 xs2],
    ![kernelRun0_B.sl.HS3_40 (F := Ideal) c i arg2 harg2 arg3 harg3 arg4 harg4 arg5 harg5 arg6 harg6 arg7 harg7 arg8 harg8 arg9 harg9 arg10 harg10 arg14 arg15 harg15 arg16 harg16 x0 x1 x2 x3 x4 x5 x6 x7 x8 xs1 xs2,
      kernelRun0_B.sl.HS3_40 (F := Ideal) c i arg2 harg2 arg3 harg3 arg4 harg4 arg5 harg5 arg6 harg6 arg7 harg7 arg8 harg8 arg9 harg9 arg10 harg10 arg14 arg15 harg15 arg16 harg16 x0 x1 x2 x3 x4 x5 x6 x7 x8 xs1 xs2,
      kernelRun0_B.sl.HS3_44 (F := Ideal) c i arg2 harg2 arg3 harg3 arg4 harg4 arg5 harg5 arg6 harg6 arg7 harg7 arg8 harg8 arg9 harg9 arg10 harg10 arg14 arg15 harg15 arg16 harg16 x0 x1 x2 x3 x4 x5 x6 x7 x8 xs1 xs2,
      kernelRun0_B.sl.HS3_44 (F := Ideal) c i arg2 harg2 arg3 harg3 arg4 harg4 arg5 harg5 arg6 harg6 arg7 harg7 arg8 harg8 arg9 harg9 arg10 harg10 arg14 arg15 harg15 arg16 harg16 x0 x1 x2 x3 x4 x5 x6 x7 x8 xs1 xs2],
    ![kernelRun0_B.sl.HS3_48 (F := Ideal) c i arg2 harg2 arg3 harg3 arg4 harg4 arg5 harg5 arg6 harg6 arg7 harg7 arg8 harg8 arg9 harg9 arg10 harg10 arg14 arg15 harg15 arg16 harg16 x0 x1 x2 x3 x4 x5 x6 x7 x8 xs1 xs2,
      kernelRun0_B.sl.HS3_48 (F := Ideal) c i arg2 harg2 arg3 harg3 arg4 harg4 arg5 harg5 arg6 harg6 arg7 harg7 arg8 harg8 arg9 harg9 arg10 harg10 arg14 arg15 harg15 arg16 harg16 x0 x1 x2 x3 x4 x5 x6 x7 x8 xs1 xs2,
      kernelRun0_B.sl.HS3_52 (F := Ideal) c i arg2 harg2 arg3 harg3 arg4 harg4 arg5 harg5 arg6 harg6 arg7 harg7 arg8 harg8 arg9 harg9 arg10 harg10 arg14 arg15 harg15 arg16 harg16 x0 x1 x2 x3 x4 x5 x6 x7 x8 xs1 xs2,
      kernelRun0_B.sl.HS3_52 (F := Ideal) c i arg2 harg2 arg3 harg3 arg4 harg4 arg5 harg5 arg6 harg6 arg7 harg7 arg8 harg8 arg9 harg9 arg10 harg10 arg14 arg15 harg15 arg16 harg16 x0 x1 x2 x3 x4 x5 x6 x7 x8 xs1 xs2],
    ![kernelRun0_B.sl.HS3_64 (F := Ideal) c i arg2 harg2 arg3 harg3 arg4 harg4 arg5 harg5 arg6 harg6 arg7 harg7 arg8 harg8 arg9 harg9 arg10 harg10 arg14 arg15 harg15 arg16 harg16 x0 x1 x2 x3 x4 x5 x6 x7 x8 xs1 xs2,
      kernelRun0_B.sl.HS3_64 (F := Ideal) c i arg2 harg2 arg3 harg3 arg4 harg4 arg5 harg5 arg6 harg6 arg7 harg7 arg8 harg8 arg9 harg9 arg10 harg10 arg14 arg15 harg15 arg16 harg16 x0 x1 x2 x3 x4 x5 x6 x7 x8 xs1 xs2,
      kernelRun0_B.sl.HS3_64 (F := Ideal) c i arg2 harg2 arg3 harg3 arg4 harg4 arg5 harg5 arg6 harg6 arg7 harg7 arg8 harg8 arg9 harg9 arg10 harg10 arg14 arg15 harg15 arg16 harg16 x0 x1 x2 x3 x4 x5 x6 x7 x8 xs1 xs2,
      kernelRun0_B.sl.HS3_64 (F := Ideal) c i arg2 harg2 arg3 harg3 arg4 harg4 arg5 harg5 arg6 harg6 arg7 harg7 arg8 harg8 arg9 harg9 arg10 harg10 arg14 arg15 harg15 arg16 harg16 x0 x1 x2 x3 x4 x5 x6 x7 x8 xs1 xs2]]

/-- The last of them, over the run's own lists. -/
theorem attn_words : kernelRun0_B.sl.HS3_64 (F := Ideal) c i arg2 harg2 arg3 harg3 arg4 harg4 arg5 harg5 arg6 harg6 arg7 harg7 arg8 harg8 arg9 harg9 arg10 harg10 arg14 arg15 harg15 arg16 harg16 x0 x1 x2 x3 x4 x5 x6 x7 x8 xs1 xs2
    = aList (ins arg15 arg16 c i arg2 harg2 arg3 harg3 arg4 harg4 arg5 harg5 arg6 harg6 arg7 harg7 arg8 harg8 arg9 harg9 arg10 harg10 arg11 harg11 arg12 harg12 x0 x1 x2 x3 x4 x5 x6 x7 x8 x9 x10 xs1 xs2 harg15 harg16) arg14 arg15 arg16 (words arg15 arg16 c arg3 harg3 arg4 harg4 arg5 harg5 arg6 harg6 arg7 harg7 arg8 harg8 arg9 harg9 arg10 harg10 x1 x2 x3 x4 x5 x6 x7 x8 xs1 xs2 harg15 harg16) 16 := by
  sl_kernel_rfl

/-- The run's lists of queries, keys and values are the tile's. -/
theorem words_eq : (words arg15 arg16 c arg3 harg3 arg4 harg4 arg5 harg5 arg6 harg6 arg7 harg7 arg8 harg8 arg9 harg9 arg10 harg10 x1 x2 x3 x4 x5 x6 x7 x8 xs1 xs2 harg15 harg16) = stored (ins arg15 arg16 c i arg2 harg2 arg3 harg3 arg4 harg4 arg5 harg5 arg6 harg6 arg7 harg7 arg8 harg8 arg9 harg9 arg10 harg10 arg11 harg11 arg12 harg12 x0 x1 x2 x3 x4 x5 x6 x7 x8 x9 x10 xs1 xs2 harg15 harg16) := by
  refine congr (congr (congrArg Stored.mk ?_) ?_) ?_ <;> funext j <;> fin_cases j <;> sl_kernel_rfl

/-- The run's attention lists are the first so many steps of the tile. -/
theorem attn_eq : (attnWords arg14 arg15 arg16 c i arg2 harg2 arg3 harg3 arg4 harg4 arg5 harg5 arg6 harg6 arg7 harg7 arg8 harg8 arg9 harg9 arg10 harg10 x0 x1 x2 x3 x4 x5 x6 x7 x8 xs1 xs2 harg15 harg16) = fun p n => aList (ins arg15 arg16 c i arg2 harg2 arg3 harg3 arg4 harg4 arg5 harg5 arg6 harg6 arg7 harg7 arg8 harg8 arg9 harg9 arg10 harg10 arg11 harg11 arg12 harg12 x0 x1 x2 x3 x4 x5 x6 x7 x8 x9 x10 xs1 xs2 harg15 harg16) arg14 arg15 arg16 (stored (ins arg15 arg16 c i arg2 harg2 arg3 harg3 arg4 harg4 arg5 harg5 arg6 harg6 arg7 harg7 arg8 harg8 arg9 harg9 arg10 harg10 arg11 harg11 arg12 harg12 x0 x1 x2 x3 x4 x5 x6 x7 x8 x9 x10 xs1 xs2 harg15 harg16)) (aAt p n) := by
  rw [← words_eq]
  funext p n
  have h := attn_words arg14 arg15 arg16 c i arg2 harg2 arg3 harg3 arg4 harg4 arg5 harg5 arg6 harg6 arg7 harg7 arg8 harg8 arg9 harg9 arg10 harg10 arg11 harg11 arg12 harg12 x0 x1 x2 x3 x4 x5 x6 x7 x8 x9 x10 xs1 xs2 harg15 harg16
  fin_cases p <;> fin_cases n
  · exact congrArg (List.drop 40) h
  · exact congrArg (List.drop 40) h
  · exact congrArg (List.drop 36) h
  · exact congrArg (List.drop 36) h
  · exact congrArg (List.drop 24) h
  · exact congrArg (List.drop 24) h
  · exact congrArg (List.drop 20) h
  · exact congrArg (List.drop 20) h
  · exact congrArg (List.drop 16) h
  · exact congrArg (List.drop 16) h
  · exact congrArg (List.drop 12) h
  · exact congrArg (List.drop 12) h
  all_goals exact h

variable (arg13 : Memref sig .tc .vmem S1x1024x1024 .f32) (harg13 : arg13.IsWhole) (harg14 : arg14.IsWhole) (harg17 : arg17.IsWhole)
  (hc0 : ¬cond0_0 i) (hc1 : cond0_1 i)

/-- The keys the run stores. -/
theorem keys_eq : (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 xs1 xs2).2.1 = kList (ins arg15 arg16 c i arg2 harg2 arg3 harg3 arg4 harg4 arg5 harg5 arg6 harg6 arg7 harg7 arg8 harg8 arg9 harg9 arg10 harg10 arg11 harg11 arg12 harg12 x0 x1 x2 x3 x4 x5 x6 x7 x8 x9 x10 xs1 xs2 harg15 harg16) 4 := by
  sl_kernel_rfl

/-- The values the run stores. -/
theorem values_eq : (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 xs1 xs2).2.2.1 = vList (ins arg15 arg16 c i arg2 harg2 arg3 harg3 arg4 harg4 arg5 harg5 arg6 harg6 arg7 harg7 arg8 harg8 arg9 harg9 arg10 harg10 arg11 harg11 arg12 harg12 x0 x1 x2 x3 x4 x5 x6 x7 x8 x9 x10 xs1 xs2 harg15 harg16) 4 := by
  sl_kernel_rfl

/-- The output the run stores. -/
theorem out_eq : (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 xs1 xs2).1
    = oList (ins arg15 arg16 c i arg2 harg2 arg3 harg3 arg4 harg4 arg5 harg5 arg6 harg6 arg7 harg7 arg8 harg8 arg9 harg9 arg10 harg10 arg11 harg11 arg12 harg12 x0 x1 x2 x3 x4 x5 x6 x7 x8 x9 x10 xs1 xs2 harg15 harg16) arg17 (attnWords arg14 arg15 arg16 c i arg2 harg2 arg3 harg3 arg4 harg4 arg5 harg5 arg6 harg6 arg7 harg7 arg8 harg8 arg9 harg9 arg10 harg10 x0 x1 x2 x3 x4 x5 x6 x7 x8 xs1 xs2 harg15 harg16) := by
  sl_kernel_rfl

end Cert.AttnIdeal.Tile.B

end
-- ==== Proof.MlpRow.lean ====
/- One row of the feed-forward half of a layer, as plain sums over the row: what both the tiled kernel and the
   reference compute, stated once over functions of `Fin` indices. -/
module

public import Idealize.ShloMosaic.Lib.Pointwise

@[expose] public section

noncomputable section

open Idealize.ShloMosaic

namespace Cert.MlpRow

/-- The factor one row is scaled by: one over the root of its mean square plus the small constant. -/
def scale (x : Fin 1024 → EReal) : EReal :=
  Ideal.rsqrt (Ideal.div (∑ k, x k * x k) (Ideal.ofBits .f32 0x44800000#32) + Ideal.ofBits .f32 0x3727C5AC#32)

/-- The normalised row, element `k`. -/
def normed (x g : Fin 1024 → EReal) (k : Fin 1024) : EReal := x k * scale x * g k

/-- Hidden unit `n`: the square of the positive part of the row against the unit's column. -/
def hiddenUnit (y : Fin 1024 → EReal) (u : Fin 1024 → Fin 4096 → EReal) (n : Fin 4096) : EReal :=
  max (∑ k, y k * u k n) 0 * max (∑ k, y k * u k n) 0

/-- The row plus its feed-forward update, element `j`. -/
def updated (x g : Fin 1024 → EReal) (u : Fin 1024 → Fin 4096 → EReal) (d : Fin 4096 → Fin 1024 → EReal)
    (j : Fin 1024) : EReal :=
  x j + ∑ n, hiddenUnit (normed x g) u n * d n j

/-- The updated row, normalised once more. -/
def final (x g : Fin 1024 → EReal) (u : Fin 1024 → Fin 4096 → EReal) (d : Fin 4096 → Fin 1024 → EReal)
    (gf : Fin 1024 → EReal) (j : Fin 1024) : EReal :=
  normed (updated x g u d) gf j

/-- Column `1024 c + n` of the hidden layer, for chunk `c` of four. -/
abbrev col (c : Fin 4) (n : Fin 1024) : Fin 4096 := ⟨c.val * 1024 + n.val, by omega⟩

/-- The first chunk's columns are the first 1024. -/
theorem col_zero (n : Fin 1024) : (⟨n.val, by omega⟩ : Fin 4096) = col 0 n := Fin.ext (by simp)

/-- The update added chunk by chunk is the update added whole. -/
theorem updated_chunks (x g : Fin 1024 → EReal) (u : Fin 1024 → Fin 4096 → EReal) (d : Fin 4096 → Fin 1024 → EReal)
    (j : Fin 1024) :
    x j + (∑ n : Fin 1024, hiddenUnit (normed x g) u (col 0 n) * d (col 0 n) j)
      + (∑ n : Fin 1024, hiddenUnit (normed x g) u (col 1 n) * d (col 1 n) j)
      + (∑ n : Fin 1024, hiddenUnit (normed x g) u (col 2 n) * d (col 2 n) j)
      + (∑ n : Fin 1024, hiddenUnit (normed x g) u (col 3 n) * d (col 3 n) j) = updated x g u d j := by
  unfold updated
  rw [Fin.sum_univ_tiles 4 1024 rfl, Fin.sum_univ_four]
  simp only [add_assoc]

end Cert.MlpRow

end
-- ==== Proof.AttnTileAt.lean ====
/- Each step of the attention kernel's tile, entry by entry. -/
module

public import proofs.«01_k».proof.Proof.AttnTile
public import proofs.«01_k».proof.Proof.MlpRow
public import Idealize.ShloMosaic.Lib.Pointwise

@[expose] public section

set_option maxRecDepth 16384

noncomputable section

open Idealize.ShloMosaic Idealize.ShloMosaic.TcCoe Idealize.SL.Sem

namespace Cert.AttnIdeal.Tile

open Cert.AttnIdeal Cert.AttnIdeal.Gen Cert.MlpRow

/-- The factor of the queries. -/
abbrev c8 : EReal := (((1 / 8) * (Real.log 2)⁻¹ : ℝ) : EReal)

/-- The factor of the constant scores. -/
abbrev c1 : EReal := (((Real.log 2)⁻¹ : ℝ) : EReal)

/-- The normalised rows. -/
theorem norm_at (x : Vec Ideal S1x256x1024 .f32) (g : Vec Ideal S1x1024 .f32) (r : Fin 256) (k : Fin 1024) :
    norm x g (ix2 r k) = normed (fun k => x (ix3 0 r k)) (fun k => g (ix2 0 k)) k := by
  pointwise [norm, normed, scale]

/-- A query entry. -/
theorem query_at (y : FVec Ideal S256x1024 .bf16) (w : Vec Ideal S1024x256 .bf16) (b : Vec Ideal S1x256 .f32)
    (r : Fin 256) (n : Fin 256) :
    query y w b (ix2 r n) = ((∑ k : Fin 1024, y (ix2 r k) * w (ix2 k n)) + b (ix2 0 n)) * c8 := by
  pointwise [query]
  rfl

/-- A tile of the queries. -/
theorem queryTile_at (y : FVec Ideal S256x1024 .bf16) (w : Vec Ideal S1024x256 .bf16) (b : Vec Ideal S1x256 .f32)
    (u v : Fin 2) (o : Fin 2 → ℕ) (ho : o = ![128 * u.val, 128 * v.val]) (h : S256x256.Slices o S128x128) (r l : Fin 128) :
    queryTile y w b o h (ix3 0 r l) = query y w b (ix2 ⟨128 * u.val + r.val, by omega⟩ ⟨128 * v.val + l.val, by omega⟩) := by
  subst ho
  fin_cases u <;> fin_cases v <;> pointwise [queryTile]

/-- A score. -/
theorem scores_at (k : Vec Ideal S1x256x128 .bf16) (q : Vec Ideal S1x512x128 .bf16) (n : Fin 256) (r : Fin 512) :
    scores k q (ix2 n r) = ∑ l : Fin 128, k (ix3 0 n l) * q (ix3 0 r l) := by
  pointwise [scores]

/-- The largest score of a query. -/
theorem top_at (s : FVec Ideal S256x128 .f32) (z : Elt Ideal .f32) (r : Fin 128) :
    top s z (ix2 0 r) = max (Finset.univ.fold max (Ideal.ofBits .f32 0xFF800000#32) fun n : Fin 256 => s (ix2 n r)) (z * c1) := by
  pointwise [top, sinkOf]
  rfl

/-- A weight before division. -/
theorem weights_at (s : FVec Ideal S256x128 .f32) (z : Elt Ideal .f32) (n : Fin 256) (r : Fin 128) :
    weights s z (ix2 n r) = Ideal.exp2 (s (ix2 n r) - top s z (ix2 0 r)) := by
  pointwise [weights]
  rfl

/-- One over the sum of the weights. -/
theorem inverse_at (s : FVec Ideal S256x128 .f32) (z : Elt Ideal .f32) (r : Fin 128) :
    inverse s z (ix2 0 r)
      = Ideal.div 1 ((∑ n : Fin 256, weights s z (ix2 n r)) + Ideal.exp2 (z * c1 - top s z (ix2 0 r))) := by
  pointwise [inverse, sinkOf]
  rfl

/-- A masked score of the head in columns `128 j` on. -/
theorem masked_at (s : FVec Ideal S256x512 .f32) (bias : FVec Ideal S256x128 .f32) (j : Fin 4) (o : Fin 2 → ℕ)
    (ho : o = ![0, 128 * j.val]) (h : S256x512.Slices o S256x128) (n : Fin 256) (r : Fin 128) :
    masked s bias o h (ix2 n r) = s (ix2 n ⟨128 * j.val + r.val, by omega⟩) + bias (ix2 n r) := by
  subst ho
  fin_cases j <;> pointwise [masked]

/-- Eight blocks of weights side by side, in block `h`. -/
theorem besideW_at (p : Fin 8 → FVec Ideal S256x128 .bf16) (h : Fin 8) (n : Fin 256) (r : Fin 128) :
    besideW (p 0) (p 1) (p 2) (p 3) (p 4) (p 5) (p 6) (p 7) (ix2 n ⟨128 * h.val + r.val, by omega⟩) = p h (ix2 n r) := by
  fin_cases h <;> pointwise [besideW] <;>
    repeat (first | rw [dif_pos (by omega)] | rw [dif_neg (by omega)])
  all_goals exact congrArg _ (congrArg _ (Fin.ext (by simp only []; omega)))

/-- Eight rows of factors side by side, in block `h`. -/
theorem besideI_at (p : Fin 8 → FVec Ideal S1x128 .f32) (h : Fin 8) (r : Fin 128) :
    besideI (p 0) (p 1) (p 2) (p 3) (p 4) (p 5) (p 6) (p 7) (ix2 0 ⟨128 * h.val + r.val, by omega⟩) = p h (ix2 0 r) := by
  fin_cases h <;> pointwise [besideI] <;>
    repeat (first | rw [dif_pos (by omega)] | rw [dif_neg (by omega)])
  all_goals exact congrArg _ (congrArg _ (Fin.ext (by simp only []; omega)))

variable (bias : FVec Ideal S256x128 .f32) (ka kb : Vec Ideal S1x256x128 .bf16) (qa qb : Vec Ideal S1x512x128 .bf16)

/-- The scores of head `4 d + j` of eight. -/
def headScores (d : Fin 2) (j : Fin 4) : FVec Ideal S256x128 .f32 :=
  masked (scores (if d = 0 then ka else kb) (if d = 0 then qa else qb)) bias ![0, 128 * j.val] (by fin_cases j <;> decide)

/-- A score of a head. -/
theorem headScores_at (d : Fin 2) (j : Fin 4) (n : Fin 256) (r : Fin 128) :
    headScores bias ka kb qa qb d j (ix2 n r)
      = (∑ l : Fin 128, (if d = 0 then ka else kb) (ix3 0 n l) * (if d = 0 then qa else qb) (ix3 0 ⟨128 * j.val + r.val, by omega⟩ l)) + bias (ix2 n r) := by
  rw [headScores, masked_at _ _ j _ rfl, scores_at]

/-- What head `4 d + j` of eight leaves at lane `e` for query `r`. -/
theorem heads_at (v0 v1 : Vec Ideal S1x1x64x128 .bf16) (z : Fin 8 → Elt Ideal .f32) (d : Fin 2) (j : Fin 4) (e : Fin 64) (r : Fin 128) :
    heads bias ka kb qa qb v0 v1 (z 0) (z 1) (z 2) (z 3) (z 4) (z 5) (z 6) (z 7) (ix2 e ⟨128 * (4 * d.val + j.val) + r.val, by omega⟩)
      = ((∑ n : Fin 128, v0 (ix4 0 0 e n) * weights (headScores bias ka kb qa qb d j) (z ⟨4 * d.val + j.val, by omega⟩) (ix2 ⟨n.val, by omega⟩ r))
          + ∑ n : Fin 128, v1 (ix4 0 0 e n) * weights (headScores bias ka kb qa qb d j) (z ⟨4 * d.val + j.val, by omega⟩) (ix2 ⟨128 + n.val, by omega⟩ r))
        * inverse (headScores bias ka kb qa qb d j) (z ⟨4 * d.val + j.val, by omega⟩) (ix2 0 r) := by
  have hW := fun n => besideW_at (fun h => weightsB (headScores bias ka kb qa qb ⟨h.val / 4, by omega⟩ ⟨h.val % 4, by omega⟩) (z h)) ⟨4 * d.val + j.val, by omega⟩ n r
  have hI := besideI_at (fun h => inverse (headScores bias ka kb qa qb ⟨h.val / 4, by omega⟩ ⟨h.val % 4, by omega⟩) (z h)) ⟨4 * d.val + j.val, by omega⟩ r
  have hd : (⟨(4 * d.val + j.val) / 4, by omega⟩ : Fin 2) = d := Fin.ext (by simp only []; omega)
  have hj : (⟨(4 * d.val + j.val) % 4, by omega⟩ : Fin 4) = j := Fin.ext (by simp only []; omega)
  simp only [hd, hj] at hW hI
  have hb : ∀ n, weightsB (headScores bias ka kb qa qb d j) (z ⟨4 * d.val + j.val, by omega⟩) (ix2 n r)
      = weights (headScores bias ka kb qa qb d j) (z ⟨4 * d.val + j.val, by omega⟩) (ix2 n r) := fun n => by pointwise [weightsB]
  simp only [hb] at hW
  rw [← hI]
  simp only [← hW]
  generalize (⟨128 * (4 * d.val + j.val) + r.val, _⟩ : Fin 1024) = col
  pointwise [heads]
  rfl

/-- A key entry. -/
theorem keys_at (y : FVec Ideal S256x1024 .bf16) (w : Vec Ideal S1024x128 .bf16) (b : Vec Ideal S1x128 .f32) (r : Fin 256) (n : Fin 128) :
    keys y w b (ix2 r n) = (∑ k : Fin 1024, y (ix2 r k) * w (ix2 k n)) + b (ix2 0 n) := by
  pointwise [keys]

/-- A key entry with the heads exchanged. -/
theorem swapped_at (k : FVec Ideal S256x128 .f32) (r : Fin 256) (n : Fin 128) :
    swapped k (ix2 r n) = k (ix2 r ⟨(n.val + 64) % 128, by omega⟩) := by
  pointwise [swapped]
  exact congrArg _ (congrArg _ (Fin.ext (by simp only []; omega)))

/-- The test of a lane against 64. -/
theorem low_lane (n : Fin 128) : IntOp.cmpi CmpIPredicate.slt (BitVec.ofNat 32 n.val) 64#32 = if n.val < 64 then 1#1 else 0#1 := by
  revert n; decide +kernel

/-- Keys kept in the first half of the lanes. -/
theorem keepLow_at (k : FVec Ideal S256x128 .f32) (r : Fin 256) (n : Fin 128) :
    keepLow k (ix3 0 r n) = if n.val < 64 then k (ix2 r n) else 0 := by
  pointwise [keepLow, low]
  rw [low_lane]
  by_cases h : n.val < 64 <;> simp [h, Scalar.select]

/-- Keys kept in the second half of the lanes. -/
theorem keepHigh_at (k : FVec Ideal S256x128 .f32) (r : Fin 256) (n : Fin 128) :
    keepHigh k (ix3 0 r n) = if n.val < 64 then 0 else k (ix2 r n) := by
  pointwise [keepHigh, low]
  rw [low_lane]
  by_cases h : n.val < 64 <;> simp [h, Scalar.select]

/-- A value entry. -/
theorem values_at (y : FVec Ideal S256x1024 .bf16) (w : Vec Ideal S128x1024 .bf16) (b : Vec Ideal S128x128 .f32) (a : Fin 128) (u : Fin 2) (r : Fin 128) :
    values y w b (ix2 a ⟨128 * u.val + r.val, by omega⟩) = (∑ k : Fin 1024, w (ix2 a k) * y (ix2 ⟨128 * u.val + r.val, by omega⟩ k)) + b (ix2 a r) := by
  fin_cases u <;> pointwise [values]

/-- A tile of the values. -/
theorem valueTile_at (v : FVec Ideal S128x256 .f32) (a u : Fin 2) (o : Fin 2 → ℕ) (ho : o = ![64 * a.val, 128 * u.val])
    (h : S128x256.Slices o S64x128) (e : Fin 64) (r : Fin 128) :
    valueTile v o h (ix4 0 0 e r) = v (ix2 ⟨64 * a.val + e.val, by omega⟩ ⟨128 * u.val + r.val, by omega⟩) := by
  subst ho
  fin_cases a <;> fin_cases u <;> pointwise [valueTile]

/-- A pair's tile: lanes below 64 are the first head's, the others the second's. -/
theorem pairTile_at (p : FVec Ideal S64x1024 .f32) (j : Fin 4) (a b : Fin 2 → ℕ) (h1 : a = ![0, 128 * j.val]) (h2 : b = ![0, 512 + 128 * j.val])
    (ha : S64x1024.Slices a S64x128) (hb : S64x1024.Slices b S64x128) (r : Fin 128) (d : Fin 2) (e : Fin 64) :
    pairTile p a b ha hb (ix2 r ⟨64 * d.val + e.val, by omega⟩) = p (ix2 e ⟨128 * (4 * d.val + j.val) + r.val, by omega⟩) := by
  subst h1 h2
  fin_cases j <;> fin_cases d <;> pointwise [pairTile]

/-- An output entry. -/
theorem output_at (x : Vec Ideal S1x256x256 .f32) (a : Vec Ideal S256x1024 .bf16) (w : Vec Ideal S1024x256 .bf16) (b : Vec Ideal S1x256 .f32)
    (r n : Fin 256) :
    output x a w b (ix3 0 r n) = (x (ix3 0 r n) + ∑ k : Fin 1024, a (ix2 r k) * w (ix2 k n)) + b (ix2 0 n) := by
  pointwise [output, k0_pay2]

end Cert.AttnIdeal.Tile

end
-- ==== Proof.AttnSpec.lean ====
/- What the tile's scratch arrays hold: every store agrees with one array, and the stores read by a step cover what it reads. -/
module

public import proofs.«01_k».proof.Proof.AttnRun
public import proofs.«01_k».proof.Proof.AttnTileAt
public import Idealize.ShloMosaic.Lib.Pipeline.ValueKit

@[expose] public section

set_option maxRecDepth 16384

noncomputable section

open Idealize.ShloMosaic Idealize.ShloMosaic.TcCoe Idealize.SL.Sem

namespace Cert.AttnIdeal.Tile

open Cert.AttnIdeal Cert.AttnIdeal.Gen

/-- Every store of the list writes its part of one array. -/
def Agrees {S : Shape} {e : EltTy} (G : S.Idx → Elt Ideal e) (l : List (View.Piece (Elt Ideal) S e)) : Prop :=
  ∀ p ∈ l, ∀ x : p.1.shape.Idx, p.2 x = G (p.1.emb x)

/-- One more store that does so. -/
theorem Agrees.cons {S : Shape} {e : EltTy} {G : S.Idx → Elt Ideal e} {l : List (View.Piece (Elt Ideal) S e)}
    {p : View.Piece (Elt Ideal) S e} (hp : ∀ x : p.1.shape.Idx, p.2 x = G (p.1.emb x)) (h : Agrees G l) : Agrees G (p :: l) :=
  List.forall_mem_cons.mpr ⟨hp, h⟩

/-- A read of what such stores cover is the array there. -/
theorem readCov_eq {sig : RefSig} {κ : Kind} {sp : Space} {S : Shape} {e : EltTy} (v : View sig κ sp S e) {G : S.Idx → Elt Ideal e}
    {l : List (View.Piece (Elt Ideal) S e)} (h : Agrees G l) (B : LoadRect S) (hc : ∀ x, ∃ p ∈ l, B.idx x ∈ p.1.set) :
    v.readCov l B = fun x => G (B.idx x) := by
  rw [View.readCov_eq_canon']
  funext x
  exact View.canon_apply_of_pieces G l h _ (hc x)

variable (L : In)

/-! ## Queries -/

/-- The query array: tile `i`, row `ρ` (128 rows for each pair of heads), lane `l`. -/
def qS (i : Fin 8) (ρ : Fin 1024) (l : Fin 128) : EReal :=
  query (L.y ⟨i.val / 2, by omega⟩) (L.wq ⟨ρ.val / 256, by omega⟩) (L.bq ⟨ρ.val / 256, by omega⟩)
    (ix2 ⟨128 * (i.val % 2) + ρ.val % 128, by omega⟩ ⟨128 * (ρ.val / 128 % 2) + l.val, by omega⟩)

/-- The same as an array. -/
abbrev qG : S8x1024x128.Idx → Elt Ideal .bf16 := fun y => qS L (y 0) (y 1) (y 2)

/-- The query array by chunk. -/
theorem qS_at (p n : Fin 4) (u v : Fin 2) (r l : Fin 128) (a : Fin 8) (b : Fin 1024) (c : Fin 128)
    (ha : a.val = 2 * p.val + u.val) (hb : b.val = 256 * n.val + 128 * v.val + r.val) (hc : c.val = l.val) :
    qS L a b c = query (L.y p) (L.wq n) (L.bq n) (ix2 ⟨128 * u.val + r.val, by omega⟩ ⟨128 * v.val + l.val, by omega⟩) := by
  have e1 : (⟨a.val / 2, by omega⟩ : Fin 4) = p := Fin.ext (by simp only []; omega)
  have e2 : (⟨b.val / 256, by omega⟩ : Fin 4) = n := Fin.ext (by simp only []; omega)
  have e3 : (⟨128 * (a.val % 2) + b.val % 128, by omega⟩ : Fin 256) = ⟨128 * u.val + r.val, by omega⟩ := Fin.ext (by simp only []; omega)
  have e4 : (⟨128 * (b.val / 128 % 2) + c.val, by omega⟩ : Fin 256) = ⟨128 * v.val + l.val, by omega⟩ := Fin.ext (by simp only []; omega)
  rw [qS, e1, e2, e3, e4]

/-- A stored query tile agrees with the query array. -/
theorem qTile_ok (p n : Fin 4) (u v : Fin 2) (o : Fin 2 → ℕ) (ho : o = ![128 * u.val, 128 * v.val]) (h : S256x256.Slices o S128x128)
    (off : Fin 3 → ℕ) (hoff : off = ![2 * p.val + u.val, 256 * n.val + 128 * v.val, 0])
    (inb : ∀ a, off a + S1x128x128.size a ≤ S8x1024x128.size a) (x : S1x128x128.Idx) :
    queryTile (L.y p) (L.wq n) (L.bq n) o h x = qG L ((Rect.unit (s := S8x1024x128) off S1x128x128.size inb).emb x) := by
  subst hoff
  obtain ⟨r, l, rfl⟩ : ∃ r l : Fin 128, x = ix3 0 r l := ⟨x 1, x 2, by rw [eq_ix3 x, Fin.fin_one_eq_zero (x 0)]; rfl⟩
  rw [queryTile_at _ _ _ u v o ho]
  refine (qS_at L p n u v r l _ _ _ ?_ ?_ ?_).symm <;> simp [ix3]

/-- A tile of a chunk lies inside the query scratch. -/
theorem inb_t (p n : Fin 4) (u v : Fin 2) : ∀ a, (![2 * p.val + u.val, 256 * n.val + 128 * v.val, 0] : Fin 3 → ℕ) a + S1x128x128.size a ≤ S8x1024x128.size a := by
  intro a; fin_cases a <;> simp <;> omega

/-- Four query stores keep agreement. -/
theorem qStep_ok (p n : Fin 4) {l} (h : Agrees (qG L) l) : Agrees (qG L) (qStep L p n l) :=
  .cons (qTile_ok L p n 1 1 _ rfl slices_S256x256_o128_128_S128x128 _ rfl (inb_t p n 1 1)) <|
  .cons (qTile_ok L p n 1 0 _ rfl slices_S256x256_o128_0_S128x128 _ rfl (inb_t p n 1 0)) <|
  .cons (qTile_ok L p n 0 1 _ rfl slices_S256x256_o0_128_S128x128 _ rfl (inb_t p n 0 1)) <|
  .cons (qTile_ok L p n 0 0 _ rfl slices_S256x256_o0_0_S128x128 _ rfl (inb_t p n 0 0)) h

/-- So does a chunk. -/
theorem qChunk_ok (p : Fin 4) {l} (h : Agrees (qG L) l) : ∀ n, Agrees (qG L) (qChunk L p l n)
  | 0 => h
  | n + 1 => qStep_ok L p _ (qChunk_ok p h n)

/-- Every query list agrees with the query array. -/
theorem qList_ok (n : ℕ) : ∀ p, Agrees (qG L) (qList L n p)
  | 0 => qChunk_ok L 0 (fun p hp => absurd hp (by simp)) n
  | p + 1 => by
    have := qList_ok 4 p
    exact qChunk_ok L _ this n

/-- The four stores of one chunk pair cover it. -/
theorem qStep_cov (p n : Fin 4) (l) (y : S8x1024x128.Idx) (h0 : (y 0).val / 2 = p.val) (h1 : (y 1).val / 256 = n.val) :
    ∃ pc ∈ qStep L p n l, y ∈ pc.1.set := by
  have h2 : (y 2).val < 128 := (y 2).isLt
  rcases Nat.mod_two_eq_zero_or_one (y 0).val with hu | hu <;> rcases Nat.mod_two_eq_zero_or_one ((y 1).val / 128) with hv | hv
  · refine ⟨_, .tail _ (.tail _ (.tail _ (.head _))), ?_⟩
    rw [Rect.mem_set_unit]; intro a; fin_cases a <;> simp <;> omega
  · refine ⟨_, .tail _ (.tail _ (.head _)), ?_⟩
    rw [Rect.mem_set_unit]; intro a; fin_cases a <;> simp <;> omega
  · refine ⟨_, .tail _ (.head _), ?_⟩
    rw [Rect.mem_set_unit]; intro a; fin_cases a <;> simp <;> omega
  · refine ⟨_, .head _, ?_⟩
    rw [Rect.mem_set_unit]; intro a; fin_cases a <;> simp <;> omega

/-- Earlier stores stay. -/
theorem qStep_tail (p n : Fin 4) {l pc} (h : pc ∈ l) : pc ∈ qStep L p n l := .tail _ (.tail _ (.tail _ (.tail _ h)))

/-- Earlier stores stay. -/
theorem qChunk_tail (p : Fin 4) {l pc} (h : pc ∈ l) : ∀ n, pc ∈ qChunk L p l n
  | 0 => h
  | n + 1 => qStep_tail L p _ (qChunk_tail p h n)

/-- A chunk covers its columns. -/
theorem qChunk_cov (p : Fin 4) (l) (y : S8x1024x128.Idx) (h0 : (y 0).val / 2 = p.val) :
    ∀ n, (y 1).val / 256 < n → ∃ pc ∈ qChunk L p l n, y ∈ pc.1.set
  | 0 => fun h => absurd h (by omega)
  | n + 1 => fun h => by
    by_cases hn : (y 1).val / 256 = n
    · have h1 : (y 1).val < 1024 := (y 1).isLt
      exact qStep_cov L p _ _ y h0 (by simp only [Fin.val_ofNat]; omega)
    · obtain ⟨pc, hp, hy⟩ := qChunk_cov p l y h0 n (by omega)
      exact ⟨pc, qStep_tail L p _ hp, hy⟩

/-- A query list covers its whole row chunks and, of the next, its columns. -/
theorem qList_cov (y : S8x1024x128.Idx) : ∀ p n, ((y 0).val / 2 < p ∨ ((y 0).val / 2 = p ∧ (y 1).val / 256 < n)) → ∃ pc ∈ qList L n p, y ∈ pc.1.set
  | 0 => fun n h => qChunk_cov L 0 [] y (by simp; omega) n (by omega)
  | p + 1 => fun n h => by
    have h1 : (y 1).val < 1024 := (y 1).isLt
    have h0 : (y 0).val < 8 := (y 0).isLt
    rcases h with h | h
    · obtain ⟨pc, hp, hy⟩ := qList_cov y p 4 (by omega)
      exact ⟨pc, qChunk_tail L _ hp n, hy⟩
    · exact qChunk_cov L _ _ y (by simp only [Fin.val_ofNat]; omega) n h.2

/-! ## Keys -/

/-- One of the four layouts of the keys of a chunk. -/
def kV (g : Fin 4) (k : FVec Ideal S256x128 .f32) : FVec Ideal S1x256x128 .bf16 :=
  ![keepLow k, keepHigh (swapped k), keepLow (swapped k), keepHigh k] g

/-- The key array: layout `g`, row `ρ` (128 carried rows first), lane `l`. -/
def kS (g : Fin 4) (ρ : Fin 1152) (l : Fin 128) : EReal :=
  if h : ρ.val < 128 then L.kc (ix3 g ⟨ρ.val, h⟩ l)
  else kV g (keys (L.y ⟨(ρ.val - 128) / 256, by omega⟩) L.wk L.bk) (ix3 0 ⟨(ρ.val - 128) % 256, by omega⟩ l)

/-- The same as an array. -/
abbrev kG : S4x1152x128.Idx → Elt Ideal .bf16 := fun y => kS L (y 0) (y 1) (y 2)

/-- The key array by chunk. -/
theorem kS_at (p g : Fin 4) (r : Fin 256) (l : Fin 128) (a : Fin 4) (b : Fin 1152) (c : Fin 128)
    (ha : a.val = g.val) (hb : b.val = 256 * p.val + 128 + r.val) (hc : c.val = l.val) :
    kS L a b c = kV g (keys (L.y p) L.wk L.bk) (ix3 0 r l) := by
  obtain rfl := Fin.ext ha
  obtain rfl := Fin.ext hc
  have e1 : (⟨(b.val - 128) / 256, by omega⟩ : Fin 4) = p := Fin.ext (by simp only []; omega)
  have e2 : (⟨(b.val - 128) % 256, by omega⟩ : Fin 256) = r := Fin.ext (by simp only []; omega)
  rw [kS, dif_neg (by omega), e1, e2]

/-- A stored layout agrees with the key array. -/
theorem kTile_ok (p g : Fin 4) (off : Fin 3 → ℕ) (hoff : off = ![g.val, 256 * p.val + 128, 0])
    (inb : ∀ a, off a + S1x256x128.size a ≤ S4x1152x128.size a) (x : S1x256x128.Idx) :
    kV g (keys (L.y p) L.wk L.bk) x = kG L ((Rect.unit (s := S4x1152x128) off S1x256x128.size inb).emb x) := by
  subst hoff
  obtain ⟨r, l, rfl⟩ : ∃ (r : Fin 256) (l : Fin 128), x = ix3 0 r l := ⟨x 1, x 2, by rw [eq_ix3 x, Fin.fin_one_eq_zero (x 0)]; rfl⟩
  refine (kS_at L p g r l _ _ _ ?_ ?_ ?_).symm <;> simp [ix3]

/-- A layout of a chunk lies inside the key scratch. -/
theorem inb_kt (p g : Fin 4) : ∀ a, (![g.val, 256 * p.val + 128, 0] : Fin 3 → ℕ) a + S1x256x128.size a ≤ S4x1152x128.size a := by
  intro a; fin_cases a <;> simp <;> omega

/-- The carried rows of the key array. -/
theorem kS_carry (g : Fin 4) (r l : Fin 128) (a : Fin 4) (b : Fin 1152) (c : Fin 128)
    (ha : a.val = g.val) (hb : b.val = r.val) (hc : c.val = l.val) : kS L a b c = L.kc (ix3 g r l) := by
  obtain rfl := Fin.ext ha
  obtain rfl := Fin.ext hc
  have e1 : (⟨b.val, by omega⟩ : Fin 128) = r := Fin.ext hb
  rw [kS, dif_pos (by omega), e1]

/-- The carried rows agree with the key array. -/
theorem kCarry_ok (inb : ∀ a, (![0, 0, 0] : Fin 3 → ℕ) a + S4x128x128.size a ≤ S4x1152x128.size a) (x : S4x128x128.Idx) :
    L.kc x = kG L ((Rect.unit (s := S4x1152x128) ![0, 0, 0] S4x128x128.size inb).emb x) := by
  obtain ⟨g, r, l, rfl⟩ : ∃ (g : Fin 4) (r l : Fin 128), x = ix3 g r l := ⟨x 0, x 1, x 2, eq_ix3 x⟩
  refine (kS_carry L g r l _ _ _ ?_ ?_ ?_).symm <;> simp [ix3]

/-- Every key list agrees with the key array. -/
theorem kList_ok : ∀ p, Agrees (kG L) (kList L p)
  | 0 => .cons (kCarry_ok L (by decide)) (fun p hp => absurd hp (by simp))
  | p + 1 => .cons (kTile_ok L _ 3 _ rfl (inb_kt _ 3)) <| .cons (kTile_ok L _ 2 _ rfl (inb_kt _ 2)) <|
      .cons (kTile_ok L _ 1 _ rfl (inb_kt _ 1)) <| .cons (kTile_ok L _ 0 _ rfl (inb_kt _ 0)) (kList_ok p)

/-- Chunk `p`'s stores cover its rows. -/
theorem kStep_cov (p : Fin 4) (l) (y : S4x1152x128.Idx) (h : ((y 1).val - 128) / 256 = p.val) (hb : 128 ≤ (y 1).val) : ∃ pc ∈ kStep L p l, y ∈ pc.1.set := by
  have h0 : (y 0).val < 4 := (y 0).isLt
  have h2 : (y 2).val < 128 := (y 2).isLt
  obtain hg | hg | hg | hg : (y 0).val = 0 ∨ (y 0).val = 1 ∨ (y 0).val = 2 ∨ (y 0).val = 3 := by omega
  · refine ⟨_, .tail _ (.tail _ (.tail _ (.head _))), ?_⟩
    rw [Rect.mem_set_unit]; intro a; fin_cases a <;> simp <;> omega
  · refine ⟨_, .tail _ (.tail _ (.head _)), ?_⟩
    rw [Rect.mem_set_unit]; intro a; fin_cases a <;> simp <;> omega
  · refine ⟨_, .tail _ (.head _), ?_⟩
    rw [Rect.mem_set_unit]; intro a; fin_cases a <;> simp <;> omega
  · refine ⟨_, .head _, ?_⟩
    rw [Rect.mem_set_unit]; intro a; fin_cases a <;> simp <;> omega

/-- A key list covers the carried rows and its chunks. -/
theorem kList_cov (y : S4x1152x128.Idx) (p : ℕ) : (y 1).val < 128 + 256 * p → ∃ pc ∈ kList L p, y ∈ pc.1.set := by
  have h0 : (y 0).val < 4 := (y 0).isLt
  have h1 : (y 1).val < 1152 := (y 1).isLt
  have h2 : (y 2).val < 128 := (y 2).isLt
  induction p with
  | zero =>
    intro h
    have hy : y ∈ (Rect.unit (s := S4x1152x128) ![0, 0, 0] S4x128x128.size (by decide)).set := by
      rw [Rect.mem_set_unit]
      intro a; fin_cases a <;> simp <;> omega
    exact ⟨⟨Rect.unit ![0, 0, 0] S4x128x128.size (by decide), L.kc⟩, .head _, hy⟩
  | succ p ih =>
    intro h
    by_cases hp : (y 1).val < 128 + 256 * p
    · obtain ⟨pc, hm, hy⟩ := ih hp
      exact ⟨pc, .tail _ (.tail _ (.tail _ (.tail _ hm))), hy⟩
    · exact kStep_cov L _ _ y (by simp only [Fin.val_ofNat]; omega) (by omega)

/-! ## Values -/

/-- The value array: head `a`, block `b` (the carried block first), lane `e`, row `r` of the block. -/
def vS (a : Fin 2) (b : Fin 9) (e : Fin 64) (r : Fin 128) : EReal :=
  if h : b.val < 1 then L.vc (ix4 a ⟨b.val, h⟩ e r)
  else values (L.y ⟨(b.val - 1) / 2, by omega⟩) L.wv L.bv (ix2 ⟨64 * a.val + e.val, by omega⟩ ⟨128 * ((b.val - 1) % 2) + r.val, by omega⟩)

/-- The same as an array. -/
abbrev vG : S2x9x64x128.Idx → Elt Ideal .bf16 := fun y => vS L (y 0) (y 1) (y 2) (y 3)

/-- The value array by chunk. -/
theorem vS_at (p : Fin 4) (a u : Fin 2) (e : Fin 64) (r : Fin 128) (a' : Fin 2) (b : Fin 9) (e' : Fin 64) (r' : Fin 128)
    (ha : a'.val = a.val) (hb : b.val = 2 * p.val + 1 + u.val) (he : e'.val = e.val) (hr : r'.val = r.val) :
    vS L a' b e' r' = values (L.y p) L.wv L.bv (ix2 ⟨64 * a.val + e.val, by omega⟩ ⟨128 * u.val + r.val, by omega⟩) := by
  obtain rfl := Fin.ext ha
  obtain rfl := Fin.ext he
  obtain rfl := Fin.ext hr
  have e1 : (⟨(b.val - 1) / 2, by omega⟩ : Fin 4) = p := Fin.ext (by simp only []; omega)
  have e2 : (⟨128 * ((b.val - 1) % 2) + r'.val, by omega⟩ : Fin 256) = ⟨128 * u.val + r'.val, by omega⟩ := Fin.ext (by simp only []; omega)
  rw [vS, dif_neg (by omega), e1, e2]

/-- A stored block of values agrees with the value array. -/
theorem vTile_ok (p : Fin 4) (a u : Fin 2) (o : Fin 2 → ℕ) (ho : o = ![64 * a.val, 128 * u.val]) (h : S128x256.Slices o S64x128)
    (off : Fin 4 → ℕ) (hoff : off = ![a.val, 2 * p.val + 1 + u.val, 0, 0])
    (inb : ∀ a, off a + S1x1x64x128.size a ≤ S2x9x64x128.size a) (x : S1x1x64x128.Idx) :
    valueTile (values (L.y p) L.wv L.bv) o h x = vG L ((Rect.unit (s := S2x9x64x128) off S1x1x64x128.size inb).emb x) := by
  subst hoff
  obtain ⟨e, r, rfl⟩ : ∃ (e : Fin 64) (r : Fin 128), x = ix4 0 0 e r := ⟨x 2, x 3, by rw [eq_ix4 x, Fin.fin_one_eq_zero (x 0), Fin.fin_one_eq_zero (x 1)]; rfl⟩
  rw [valueTile_at _ a u o ho]
  refine (vS_at L p a u e r _ _ _ _ ?_ ?_ ?_ ?_).symm <;> simp [ix4]

/-- A block of a chunk lies inside the value scratch. -/
theorem inb_vt (p : Fin 4) (a u : Fin 2) : ∀ i, (![a.val, 2 * p.val + 1 + u.val, 0, 0] : Fin 4 → ℕ) i + S1x1x64x128.size i ≤ S2x9x64x128.size i := by
  intro i; fin_cases i <;> simp <;> omega

/-- The carried block of the value array. -/
theorem vS_carry (g : Fin 2) (b : Fin 1) (e : Fin 64) (r : Fin 128) (a' : Fin 2) (b' : Fin 9) (e' : Fin 64) (r' : Fin 128)
    (ha : a'.val = g.val) (hb : b'.val = b.val) (he : e'.val = e.val) (hr : r'.val = r.val) : vS L a' b' e' r' = L.vc (ix4 g b e r) := by
  obtain rfl := Fin.ext ha
  obtain rfl := Fin.ext he
  obtain rfl := Fin.ext hr
  have e1 : (⟨b'.val, by omega⟩ : Fin 1) = b := Fin.ext hb
  rw [vS, dif_pos (by omega), e1]

/-- The carried block agrees with the value array. -/
theorem vCarry_ok (inb : ∀ a, (![0, 0, 0, 0] : Fin 4 → ℕ) a + S2x1x64x128.size a ≤ S2x9x64x128.size a) (x : S2x1x64x128.Idx) :
    L.vc x = vG L ((Rect.unit (s := S2x9x64x128) ![0, 0, 0, 0] S2x1x64x128.size inb).emb x) := by
  obtain ⟨g, b, e, r, rfl⟩ : ∃ (g : Fin 2) (b : Fin 1) (e : Fin 64) (r : Fin 128), x = ix4 g b e r := ⟨x 0, x 1, x 2, x 3, eq_ix4 x⟩
  refine (vS_carry L g b e r _ _ _ _ ?_ ?_ ?_ ?_).symm <;> simp [ix4]

/-- Every value list agrees with the value array. -/
theorem vList_ok : ∀ p, Agrees (vG L) (vList L p)
  | 0 => .cons (vCarry_ok L (by decide)) (fun p hp => absurd hp (by simp))
  | p + 1 => .cons (vTile_ok L _ 1 1 _ rfl slices_S128x256_o64_128_S64x128 _ rfl (inb_vt _ 1 1)) <|
      .cons (vTile_ok L _ 1 0 _ rfl slices_S128x256_o64_0_S64x128 _ rfl (inb_vt _ 1 0)) <|
      .cons (vTile_ok L _ 0 1 _ rfl slices_S128x256_o0_128_S64x128 _ rfl (inb_vt _ 0 1)) <|
      .cons (vTile_ok L _ 0 0 _ rfl slices_S128x256_o0_0_S64x128 _ rfl (inb_vt _ 0 0)) (vList_ok p)

/-- A block of the value array by its head and number. -/
theorem mem_v (y : S2x9x64x128.Idx) (a b : ℕ) (ha : (y 0).val = a) (hb : (y 1).val = b) :
    ∀ i, (![a, b, 0, 0] : Fin 4 → ℕ) i ≤ (y i).val ∧ (y i).val < (![a, b, 0, 0] : Fin 4 → ℕ) i + S1x1x64x128.size i := by
  have h2 : (y 2).val < 64 := (y 2).isLt
  have h3 : (y 3).val < 128 := (y 3).isLt
  intro i; fin_cases i <;> simp <;> omega

/-- Chunk `p`'s stores cover its blocks. -/
theorem vStep_cov (p : Fin 4) (l) (y : S2x9x64x128.Idx) (h : ((y 1).val - 1) / 2 = p.val) (hb : 1 ≤ (y 1).val) : ∃ pc ∈ vStep L p l, y ∈ pc.1.set := by
  have h0 : (y 0).val < 2 := (y 0).isLt
  have h2 : (y 2).val < 64 := (y 2).isLt
  have h3 : (y 3).val < 128 := (y 3).isLt
  obtain hg | hg | hg | hg : ((y 0).val = 0 ∧ (y 1).val = 2 * p.val + 1) ∨ ((y 0).val = 0 ∧ (y 1).val = 2 * p.val + 2) ∨
      ((y 0).val = 1 ∧ (y 1).val = 2 * p.val + 1) ∨ ((y 0).val = 1 ∧ (y 1).val = 2 * p.val + 2) := by omega
  · refine ⟨_, .tail _ (.tail _ (.tail _ (.head _))), ?_⟩
    rw [Rect.mem_set_unit]; exact mem_v y _ _ hg.1 hg.2
  · refine ⟨_, .tail _ (.tail _ (.head _)), ?_⟩
    rw [Rect.mem_set_unit]; exact mem_v y _ _ hg.1 hg.2
  · refine ⟨_, .tail _ (.head _), ?_⟩
    rw [Rect.mem_set_unit]; exact mem_v y _ _ hg.1 hg.2
  · refine ⟨_, .head _, ?_⟩
    rw [Rect.mem_set_unit]; exact mem_v y _ _ hg.1 hg.2

/-- A value list covers the carried block and its chunks. -/
theorem vList_cov (y : S2x9x64x128.Idx) (p : ℕ) : (y 1).val ≤ 2 * p → ∃ pc ∈ vList L p, y ∈ pc.1.set := by
  have h0 : (y 0).val < 2 := (y 0).isLt
  have h1 : (y 1).val < 9 := (y 1).isLt
  have h2 : (y 2).val < 64 := (y 2).isLt
  have h3 : (y 3).val < 128 := (y 3).isLt
  induction p with
  | zero =>
    intro h
    have hy : y ∈ (Rect.unit (s := S2x9x64x128) ![0, 0, 0, 0] S2x1x64x128.size (by decide)).set := by
      rw [Rect.mem_set_unit]
      intro a; fin_cases a <;> simp <;> omega
    exact ⟨⟨Rect.unit ![0, 0, 0, 0] S2x1x64x128.size (by decide), L.vc⟩, .head _, hy⟩
  | succ p ih =>
    intro h
    by_cases hp : (y 1).val ≤ 2 * p
    · obtain ⟨pc, hm, hy⟩ := ih hp
      exact ⟨pc, .tail _ (.tail _ (.tail _ (.tail _ hm))), hy⟩
    · exact vStep_cov L _ _ y (by simp only [Fin.val_ofNat]; omega) (by omega)

end Cert.AttnIdeal.Tile

end
-- ==== Proof.AttnOut.lean ====
/- What one tile of the attention kernel writes out, element by element. -/
module

public import proofs.«01_k».proof.Proof.AttnSpec

@[expose] public section

set_option maxRecDepth 16384

noncomputable section

open Idealize.ShloMosaic Idealize.ShloMosaic.TcCoe Idealize.SL.Sem

namespace Cert.AttnIdeal.Tile

open Cert.AttnIdeal Cert.AttnIdeal.Gen

variable (L : In)

/-! ## What a step reads -/

/-- The queries of key head `kv` over block `i`. -/
def qB (i : Fin 8) (kv : Fin 2) : Vec Ideal S1x512x128 .bf16 := fun x =>
  qS L i ⟨512 * kv.val + (x 1).val, by have : (x 1).val < 512 := (x 1).isLt; omega⟩ (x 2)

/-- The keys of layout `g` over the band of block `i`. -/
def kB (g : Fin 4) (i : Fin 8) : Vec Ideal S1x256x128 .bf16 := fun x =>
  kS L g ⟨128 * i.val + (x 1).val, by have : (x 1).val < 256 := (x 1).isLt; omega⟩ (x 2)

/-- The values of head `kv` over block `b`. -/
def vB (kv : Fin 2) (b : Fin 9) : Vec Ideal S1x1x64x128 .bf16 := fun x => vS L kv b (x 2) (x 3)

variable (arg14 : Memref sig .tc .vmem S8x1024x128 .bf16) (arg15 : Memref sig .tc .vmem S4x1152x128 .bf16)
  (arg16 : Memref sig .tc .vmem S2x9x64x128 .bf16) (arg17 : Memref sig .tc .vmem S1024x1024 .bf16)

/-- The query read of a step. -/
theorem qRead (P N : ℕ) (i : Fin 8) (kv : Fin 2) (hc : i.val / 2 < P ∨ (i.val / 2 = P ∧ 2 * kv.val + 1 < N)) (inb) :
    arg14.view.readCov (qList L N P) (Rect.unit (s := S8x1024x128) ![i.val, 512 * kv.val, 0] S1x512x128.size inb).toLoadRect = qB L i kv := by
  rw [readCov_eq _ (qList_ok L N P) _ fun x => ?_]
  · funext x
    have h0 : (x 0).val < 1 := (x 0).isLt
    refine congr (congr (congrArg (qS L) (Fin.ext ?_)) (Fin.ext ?_)) (Fin.ext ?_)
    · show i.val + 1 * (x 0).val = i.val; omega
    · show 512 * kv.val + 1 * (x 1).val = 512 * kv.val + (x 1).val; omega
    · show 0 + 1 * (x 2).val = (x 2).val; omega
  · have h0 : (x 0).val < 1 := (x 0).isLt
    have h1 : (x 1).val < 512 := (x 1).isLt
    refine qList_cov L _ P N ?_
    show (i.val + 1 * (x 0).val) / 2 < P ∨ ((i.val + 1 * (x 0).val) / 2 = P ∧ (512 * kv.val + 1 * (x 1).val) / 256 < N)
    omega

/-- The key read of a step. -/
theorem kRead (P : ℕ) (g : Fin 4) (i : Fin 8) (hc : i.val + 1 ≤ 2 * P) (o : ℕ) (ho : o = g.val) (inb) :
    arg15.view.readCov (kList L P) (Rect.unit (s := S4x1152x128) ![o, 128 * i.val, 0] S1x256x128.size inb).toLoadRect = kB L g i := by
  subst ho
  rw [readCov_eq _ (kList_ok L P) _ fun x => ?_]
  · funext x
    have h0 : (x 0).val < 1 := (x 0).isLt
    refine congr (congr (congrArg (kS L) (Fin.ext ?_)) (Fin.ext ?_)) (Fin.ext ?_)
    · show g.val + 1 * (x 0).val = g.val; omega
    · show 128 * i.val + 1 * (x 1).val = 128 * i.val + (x 1).val; omega
    · show 0 + 1 * (x 2).val = (x 2).val; omega
  · have h1 : (x 1).val < 256 := (x 1).isLt
    refine kList_cov L _ P ?_
    show 128 * i.val + 1 * (x 1).val < 128 + 256 * P
    omega

/-- The value read of a step. -/
theorem vRead (P : ℕ) (kv : Fin 2) (b : Fin 9) (hc : b.val ≤ 2 * P) (o : ℕ) (ho : o = b.val) (inb) :
    arg16.view.readCov (vList L P) (Rect.unit (s := S2x9x64x128) ![kv.val, o, 0, 0] S1x1x64x128.size inb).toLoadRect = vB L kv b := by
  subst ho
  rw [readCov_eq _ (vList_ok L P) _ fun x => ?_]
  · funext x
    have h0 : (x 0).val < 1 := (x 0).isLt
    have h1 : (x 1).val < 1 := (x 1).isLt
    refine congr (congr (congr (congrArg (vS L) (Fin.ext ?_)) (Fin.ext ?_)) (Fin.ext ?_)) (Fin.ext ?_)
    · show kv.val + 1 * (x 0).val = kv.val; omega
    · show b.val + 1 * (x 1).val = b.val; omega
    · show 0 + 1 * (x 2).val = (x 2).val; omega
    · show 0 + 1 * (x 3).val = (x 3).val; omega
  · have h1 : (x 1).val < 1 := (x 1).isLt
    refine vList_cov L _ P ?_
    show b.val + 1 * (x 1).val ≤ 2 * P
    omega

/-! ## The attention array -/

/-- The mask of block `i`. -/
def biasS (i : Fin 8) : FVec Ideal S256x128 .f32 := if i.val = 0 then L.b0 else band

/-- The sink of head `4 d + j` of the eight of key head `kv`: head `8 kv + 2 j + d` of the sixteen. -/
def sinkS (kv : Fin 2) (h : Fin 8) : Elt Ideal .f32 := L.sink ⟨8 * kv.val + 2 * (h.val % 4) + h.val / 4, by omega⟩

/-- The heads of key head `kv` over block `i`. -/
def headsS (i : Fin 8) (kv : Fin 2) : FVec Ideal S64x1024 .f32 :=
  heads (biasS L i) (kB L ⟨2 * kv.val, by omega⟩ i) (kB L ⟨2 * kv.val + 1, by omega⟩ i) (qB L i kv) (qB L i kv)
    (vB L kv ⟨i.val, by omega⟩) (vB L kv ⟨i.val + 1, by omega⟩)
    (sinkS L kv 0) (sinkS L kv 1) (sinkS L kv 2) (sinkS L kv 3) (sinkS L kv 4) (sinkS L kv 5) (sinkS L kv 6) (sinkS L kv 7)

/-- What each step reads has been stored. -/
theorem reads_ok : ∀ m : Fin 16,
    ((m.val / 2 / 2 < qP (qAt m).1 ∨ (m.val / 2 / 2 = qP (qAt m).1 ∧ 2 * (m.val % 2) + 1 < qN (qAt m).1)) ∧
     (m.val / 2 / 2 < qP (qAt m).2 ∨ (m.val / 2 / 2 = qP (qAt m).2 ∧ 2 * (m.val % 2) + 1 < qN (qAt m).2))) ∧
    (m.val / 2 + 1 ≤ 2 * ((kAt m).1.val + 1) ∧ m.val / 2 + 1 ≤ 2 * ((kAt m).2.val + 1)) ∧
    (m.val / 2 ≤ 2 * ((vAt m).1.val + 1) ∧ m.val / 2 + 1 ≤ 2 * ((vAt m).2.val + 1)) := by
  decide

/-- The mask of step `m` is that of its block. -/
theorem biasAt_eq (m : Fin 16) : biasAt L m = biasS L ⟨m.val / 2, by omega⟩ := by
  fin_cases m <;> rfl

/-- The heads of step `m`. -/
theorem headsAt_eq (m : Fin 16) : headsAt L arg14 arg15 arg16 (stored L) m = headsS L ⟨m.val / 2, by omega⟩ ⟨m.val % 2, by omega⟩ := by
  obtain ⟨⟨h1, h2⟩, ⟨h3, h4⟩, h5, h6⟩ := reads_ok m
  rw [headsAt, headsOf, headsS, biasAt_eq]
  simp only [stored]
  rw [qRead L arg14 _ _ ⟨m.val / 2, by omega⟩ ⟨m.val % 2, by omega⟩ h1, qRead L arg14 _ _ ⟨m.val / 2, by omega⟩ ⟨m.val % 2, by omega⟩ h2,
    kRead L arg15 _ ⟨2 * (m.val % 2), by omega⟩ ⟨m.val / 2, by omega⟩ h3 _ rfl, kRead L arg15 _ ⟨2 * (m.val % 2) + 1, by omega⟩ ⟨m.val / 2, by omega⟩ h4 _ rfl,
    vRead L arg16 _ ⟨m.val % 2, by omega⟩ ⟨m.val / 2, by omega⟩ h5 _ rfl, vRead L arg16 _ ⟨m.val % 2, by omega⟩ ⟨m.val / 2 + 1, by omega⟩ h6 _ rfl]
  rfl

/-- The attention array: row `ρ`, column `c` (lane `c % 64` of head `c / 64`). -/
def att (ρ c : Fin 1024) : EReal :=
  headsS L ⟨ρ.val / 128, by omega⟩ ⟨c.val / 512, by omega⟩
    (ix2 ⟨c.val % 64, by omega⟩ ⟨128 * (4 * (c.val / 64 % 2) + c.val / 128 % 4) + ρ.val % 128, by omega⟩)

/-- The same as an array. -/
abbrev aG : S1024x1024.Idx → Elt Ideal .bf16 := fun y => att L (y 0) (y 1)

/-- The attention array by step. -/
theorem att_at (i : Fin 8) (kv : Fin 2) (j : Fin 4) (d : Fin 2) (e : Fin 64) (r : Fin 128) (a b : Fin 1024)
    (ha : a.val = 128 * i.val + r.val) (hb : b.val = 512 * kv.val + 128 * j.val + 64 * d.val + e.val) :
    att L a b = headsS L i kv (ix2 e ⟨128 * (4 * d.val + j.val) + r.val, by omega⟩) := by
  have e1 : (⟨a.val / 128, by omega⟩ : Fin 8) = i := Fin.ext (by simp only []; omega)
  have e2 : (⟨b.val / 512, by omega⟩ : Fin 2) = kv := Fin.ext (by simp only []; omega)
  have e3 : (⟨b.val % 64, by omega⟩ : Fin 64) = e := Fin.ext (by simp only []; omega)
  have e4 : (⟨128 * (4 * (b.val / 64 % 2) + b.val / 128 % 4) + a.val % 128, by omega⟩ : Fin 1024)
      = ⟨128 * (4 * d.val + j.val) + r.val, by omega⟩ := Fin.ext (by simp only []; omega)
  rw [att, e1, e2, e3, e4]

/-- A stored attention tile agrees with the attention array. -/
theorem aTile_ok (i : Fin 8) (kv : Fin 2) (j : Fin 4) (a b : Fin 2 → ℕ) (h1 : a = ![0, 128 * j.val]) (h2 : b = ![0, 512 + 128 * j.val])
    (ha : S64x1024.Slices a S64x128) (hb : S64x1024.Slices b S64x128) (off : Fin 2 → ℕ) (hoff : off = ![128 * i.val, 512 * kv.val + 128 * j.val])
    (inb : ∀ a, off a + S128x128.size a ≤ S1024x1024.size a) (x : S128x128.Idx) :
    pairTile (headsS L i kv) a b ha hb x = aG L ((Rect.unit (s := S1024x1024) off S128x128.size inb).emb x) := by
  subst hoff
  obtain ⟨r, d, e, rfl⟩ : ∃ (r : Fin 128) (d : Fin 2) (e : Fin 64), x = ix2 r ⟨64 * d.val + e.val, by omega⟩ := by
    have hx : (x 1).val < 128 := (x 1).isLt
    refine ⟨x 0, ⟨(x 1).val / 64, by omega⟩, ⟨(x 1).val % 64, by omega⟩, ?_⟩
    refine (eq_ix2 x).trans (congrArg (ix2 (x 0)) (Fin.ext ?_))
    show (x 1).val = 64 * ((x 1).val / 64) + (x 1).val % 64
    omega
  rw [pairTile_at _ j a b h1 h2]
  refine (att_at L i kv j d e r _ _ ?_ ?_).symm <;> simp [ix2] <;> omega

/-- A tile of a step lies inside the attention scratch. -/
theorem inb_at (i : Fin 8) (kv : Fin 2) (j : Fin 4) : ∀ a, (![128 * i.val, 512 * kv.val + 128 * j.val] : Fin 2 → ℕ) a + S128x128.size a ≤ S1024x1024.size a := by
  intro a; fin_cases a <;> simp <;> omega

/-- Every attention list agrees with the attention array. -/
theorem aList_ok : ∀ m, Agrees (aG L) (aList L arg14 arg15 arg16 (stored L) m)
  | 0 => fun p hp => absurd hp (by simp [aList])
  | m + 1 => by
    rw [aList, headsAt_eq]
    exact .cons (aTile_ok L _ _ 3 _ _ rfl rfl slices_S64x1024_o0_384_S64x128 slices_S64x1024_o0_896_S64x128 _ rfl (inb_at _ _ 3)) <|
      .cons (aTile_ok L _ _ 2 _ _ rfl rfl slices_S64x1024_o0_256_S64x128 slices_S64x1024_o0_768_S64x128 _ rfl (inb_at _ _ 2)) <|
      .cons (aTile_ok L _ _ 1 _ _ rfl rfl slices_S64x1024_o0_128_S64x128 slices_S64x1024_o0_640_S64x128 _ rfl (inb_at _ _ 1)) <|
      .cons (aTile_ok L _ _ 0 _ _ rfl rfl slices_S64x1024_o0_0_S64x128 slices_S64x1024_o0_512_S64x128 _ rfl (inb_at _ _ 0)) (aList_ok m)

/-- A step's stores cover its block and key head. -/
theorem aStep_cov (o : FVec Ideal S64x1024 .f32) (i : Fin 8) (kv : Fin 2) (l) (y : S1024x1024.Idx) (h0 : (y 0).val / 128 = i.val) (h1 : (y 1).val / 512 = kv.val) :
    ∃ pc ∈ aStep o i kv l, y ∈ pc.1.set := by
  have h2 : (y 1).val < 1024 := (y 1).isLt
  obtain hj | hj | hj | hj : (y 1).val / 128 % 4 = 0 ∨ (y 1).val / 128 % 4 = 1 ∨ (y 1).val / 128 % 4 = 2 ∨ (y 1).val / 128 % 4 = 3 := by omega
  · refine ⟨_, .tail _ (.tail _ (.tail _ (.head _))), ?_⟩
    rw [Rect.mem_set_unit]; intro a; fin_cases a <;> simp <;> omega
  · refine ⟨_, .tail _ (.tail _ (.head _)), ?_⟩
    rw [Rect.mem_set_unit]; intro a; fin_cases a <;> simp <;> omega
  · refine ⟨_, .tail _ (.head _), ?_⟩
    rw [Rect.mem_set_unit]; intro a; fin_cases a <;> simp <;> omega
  · refine ⟨_, .head _, ?_⟩
    rw [Rect.mem_set_unit]; intro a; fin_cases a <;> simp <;> omega

/-- An attention list covers its steps. -/
theorem aList_cov (y : S1024x1024.Idx) (m : ℕ) : 2 * ((y 0).val / 128) + (y 1).val / 512 < m → ∃ pc ∈ aList L arg14 arg15 arg16 (stored L) m, y ∈ pc.1.set := by
  have h0 : (y 0).val < 1024 := (y 0).isLt
  have h1 : (y 1).val < 1024 := (y 1).isLt
  induction m with
  | zero => intro h; omega
  | succ m ih =>
    intro h
    by_cases hm : 2 * ((y 0).val / 128) + (y 1).val / 512 < m
    · obtain ⟨pc, hp, hy⟩ := ih hm
      exact ⟨pc, .tail _ (.tail _ (.tail _ (.tail _ hp))), hy⟩
    · exact aStep_cov _ _ _ _ y (by simp only [Fin.val_ofNat]; omega) (by simp only [Fin.val_ofNat]; omega)

/-- The attention read for the output of row chunk `p`. -/
theorem aRead (m : ℕ) (p : Fin 4) (hc : 4 * p.val + 3 < m) (inb) :
    arg17.view.readCov (aList L arg14 arg15 arg16 (stored L) m) (Rect.unit (s := S1024x1024) ![256 * p.val, 0] S256x1024.size inb).toLoadRect
      = fun x => att L ⟨256 * p.val + (x 0).val, by have : (x 0).val < 256 := (x 0).isLt; omega⟩ (x 1) := by
  rw [readCov_eq _ (aList_ok L arg14 arg15 arg16 m) _ fun x => ?_]
  · funext x
    refine congr (congrArg (att L) (Fin.ext ?_)) (Fin.ext ?_)
    · show 256 * p.val + 1 * (x 0).val = 256 * p.val + (x 0).val; omega
    · show 0 + 1 * (x 1).val = (x 1).val; omega
  · have h0 : (x 0).val < 256 := (x 0).isLt
    have h1 : (x 1).val < 1024 := (x 1).isLt
    refine aList_cov L arg14 arg15 arg16 _ m ?_
    show 2 * ((256 * p.val + 1 * (x 0).val) / 128) + (0 + 1 * (x 1).val) / 512 < m
    omega

/-! ## The output -/

/-- The output of the tile: row `ρ`, column `c`. -/
def out (ρ c : Fin 1024) : EReal :=
  (L.xo ⟨ρ.val / 256, by omega⟩ ⟨c.val / 256, by omega⟩ (ix3 0 ⟨ρ.val % 256, by omega⟩ ⟨c.val % 256, by omega⟩)
      + ∑ k : Fin 1024, att L ρ k * L.wo ⟨c.val / 256, by omega⟩ (ix2 k ⟨c.val % 256, by omega⟩))
    + L.bo ⟨c.val / 256, by omega⟩ (ix2 0 ⟨c.val % 256, by omega⟩)

/-- The same as an array. -/
abbrev oG : S1x1024x1024.Idx → Elt Ideal .f32 := fun y => out L (y 1) (y 2)

/-- The output by chunk. -/
theorem out_at (p n : Fin 4) (r c : Fin 256) (a b : Fin 1024) (ha : a.val = 256 * p.val + r.val) (hb : b.val = 256 * n.val + c.val) :
    out L a b = (L.xo p n (ix3 0 r c) + ∑ k : Fin 1024, att L a k * L.wo n (ix2 k c)) + L.bo n (ix2 0 c) := by
  have e1 : (⟨a.val / 256, by omega⟩ : Fin 4) = p := Fin.ext (by simp only []; omega)
  have e2 : (⟨b.val / 256, by omega⟩ : Fin 4) = n := Fin.ext (by simp only []; omega)
  have e3 : (⟨a.val % 256, by omega⟩ : Fin 256) = r := Fin.ext (by simp only []; omega)
  have e4 : (⟨b.val % 256, by omega⟩ : Fin 256) = c := Fin.ext (by simp only []; omega)
  rw [out, e1, e2, e3, e4]

/-- An output tile lies inside the output block. -/
theorem inb_o (p n : Fin 4) : ∀ a, (![0, 256 * p.val, 256 * n.val] : Fin 3 → ℕ) a + S1x256x256.size a ≤ S1x1024x1024.size a := by
  intro a; fin_cases a <;> simp <;> omega

/-- An output tile agrees with the output. -/
theorem oTile_ok (p n : Fin 4) (v : Vec Ideal S256x1024 .bf16)
    (hv : ∀ (r : Fin 256) (k : Fin 1024), v (ix2 r k) = att L ⟨256 * p.val + r.val, by omega⟩ k) (x : S1x256x256.Idx) :
    output (L.xo p n) v (L.wo n) (L.bo n) x = oG L ((Rect.unit (s := S1x1024x1024) ![0, 256 * p.val, 256 * n.val] S1x256x256.size (inb_o p n)).emb x) := by
  obtain ⟨r, c, rfl⟩ : ∃ r c : Fin 256, x = ix3 0 r c := ⟨x 1, x 2, by rw [eq_ix3 x, Fin.fin_one_eq_zero (x 0)]; rfl⟩
  rw [output_at]
  simp only [hv]
  have ha : (⟨256 * p.val + r.val, by omega⟩ : Fin 1024) = (Rect.unit (s := S1x1024x1024) ![0, 256 * p.val, 256 * n.val] S1x256x256.size (inb_o p n)).emb (ix3 0 r c) 1 :=
    Fin.ext (show 256 * p.val + r.val = 256 * p.val + 1 * r.val by omega)
  have hb : (⟨256 * n.val + c.val, by omega⟩ : Fin 1024) = (Rect.unit (s := S1x1024x1024) ![0, 256 * p.val, 256 * n.val] S1x256x256.size (inb_o p n)).emb (ix3 0 r c) 2 :=
    Fin.ext (show 256 * n.val + c.val = 256 * n.val + 1 * c.val by omega)
  refine (out_at L p n r c ⟨256 * p.val + r.val, by omega⟩ ⟨256 * n.val + c.val, by omega⟩ rfl rfl).symm.trans ?_
  rw [ha, hb]

/-- An output store, with what it reads written out. -/
theorem oPiece_eq (m : ℕ) (p n : Fin 4) (hc : 4 * p.val + 3 < m) : oPiece L arg17 (aList L arg14 arg15 arg16 (stored L) m) p n
    = ⟨Rect.unit ![0, 256 * p.val, 256 * n.val] S1x256x256.size (inb_o p n),
        output (L.xo p n) (fun x => att L ⟨256 * p.val + (x 0).val, by have : (x 0).val < 256 := (x 0).isLt; omega⟩ (x 1)) (L.wo n) (L.bo n)⟩ := by
  rw [oPiece, aRead L arg14 arg15 arg16 arg17 m p hc]
  exact rfl

/-- An output store agrees with the output. -/
theorem oPiece_ok (m : ℕ) (p n : Fin 4) (hc : 4 * p.val + 3 < m) (x) :
    (oPiece L arg17 (aList L arg14 arg15 arg16 (stored L) m) p n).2 x = oG L ((oPiece L arg17 (aList L arg14 arg15 arg16 (stored L) m) p n).1.emb x) := by
  revert x
  rw [oPiece_eq L arg14 arg15 arg16 arg17 m p n hc]
  exact oTile_ok L p n _ fun r k => rfl

/-- Enough attention has been stored for each output. -/
theorem aAt_ok : ∀ p n : Fin 4, 4 * p.val + 3 < aAt p n := by decide

/-- The output stores agree with the output. -/
theorem oList_ok : Agrees (oG L) (oList L arg17 fun p n => aList L arg14 arg15 arg16 (stored L) (aAt p n)) := by
  have h := fun p n => oPiece_ok L arg14 arg15 arg16 arg17 (aAt p n) p n (aAt_ok p n)
  intro q hq
  simp only [oList, List.mem_cons, List.not_mem_nil, or_false] at hq
  rcases hq with rfl | rfl | rfl | rfl | rfl | rfl | rfl | rfl | rfl | rfl | rfl | rfl | rfl | rfl | rfl | rfl <;> exact h _ _

/-- Each output store is in the list. -/
theorem oPiece_mem (A : Fin 4 → Fin 4 → List (View.Piece (Elt Ideal) S1024x1024 .bf16)) (p n : Fin 4) : oPiece L arg17 (A p n) p n ∈ oList L arg17 A := by
  fin_cases p <;> fin_cases n <;> simp [oList]

/-- What the tile leaves in its output block. -/
theorem out_canon (y : S1x1024x1024.Idx) :
    View.canon (oList L arg17 fun p n => aList L arg14 arg15 arg16 (stored L) (aAt p n)) y = oG L y := by
  have h0 : (y 0).val < 1 := (y 0).isLt
  have h1 : (y 1).val < 1024 := (y 1).isLt
  have h2 : (y 2).val < 1024 := (y 2).isLt
  refine View.canon_apply_of_pieces (oG L) _ (oList_ok L arg14 arg15 arg16 arg17) y
    ⟨_, oPiece_mem L arg17 _ ⟨(y 1).val / 256, by omega⟩ ⟨(y 2).val / 256, by omega⟩, ?_⟩
  show y ∈ (Rect.unit (s := S1x1024x1024) _ _ (inb_o ⟨(y 1).val / 256, by omega⟩ ⟨(y 2).val / 256, by omega⟩)).set
  rw [Rect.mem_set_unit]
  intro a; fin_cases a <;> simp <;> omega

/-- What the tile leaves in its key scratch. -/
theorem keys_canon (y : S4x1152x128.Idx) : View.canon (kList L 4) y = kG L y :=
  View.canon_apply_of_pieces (kG L) _ (kList_ok L 4) y (kList_cov L y 4 (by have : (y 1).val < 1152 := (y 1).isLt; omega))

/-- What the tile leaves in its value scratch. -/
theorem values_canon (y : S2x9x64x128.Idx) : View.canon (vList L 4) y = vG L y :=
  View.canon_apply_of_pieces (vG L) _ (vList_ok L 4) y (vList_cov L y 4 (by have : (y 1).val < 9 := (y 1).isLt; omega))

end Cert.AttnIdeal.Tile

end
-- ==== Proof.AttnSoft.lean ====
/- The attention of one query over its band of 256 keys, over plain numbers: powers of two of scores scaled by one over log 2, divided
   once after the sum over the values, are the exponentials of the scores, divided one by one before it. -/
module

public import Idealize.ShloMosaic.Lib.Pointwise
public import proofs.«01_k».proof.Proof.MlpRow

@[expose] public section

noncomputable section

open Idealize.ShloMosaic

namespace Cert.AttnRow

open Cert.MlpRow

/-! ## Numbers -/

/-- The value is a number, not an infinity. -/
def Num (x : EReal) : Prop := ∃ r : ℝ, x = (r : EReal)

theorem Num.add {x y : EReal} (hx : Num x) (hy : Num y) : Num (x + y) := by
  obtain ⟨a, rfl⟩ := hx; obtain ⟨b, rfl⟩ := hy; exact ⟨a + b, by push_cast; rfl⟩

theorem Num.mul {x y : EReal} (hx : Num x) (hy : Num y) : Num (x * y) := by
  obtain ⟨a, rfl⟩ := hx; obtain ⟨b, rfl⟩ := hy; exact ⟨a * b, by push_cast; rfl⟩

theorem Num.zero : Num 0 := ⟨0, rfl⟩

/-- A sum of numbers is their sum. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih]; push_cast; rfl

theorem Num.sum {ι : Type} {s : Finset ι} {f : ι → EReal} (h : ∀ i, Num (f i)) : Num (∑ i ∈ s, f i) := by
  choose g hg using h
  exact ⟨_, by simp only [hg]; exact coe_sum s g⟩

/-- A value whose absolute value is below infinity is a number. -/
theorem num_of_abs_lt {x : EReal} (h : max x (-x) < ⊤) : Num x := by
  induction x with
  | bot => simp at h
  | top => simp at h
  | coe r => exact ⟨r, rfl⟩

/-- The small constant is a positive number. -/
theorem eps_pos : ∃ e : ℝ, 0 < e ∧ Ideal.ofBits .f32 0x3727C5AC#32 = (e : EReal) := by
  refine ⟨_, ?_, by simp [Ideal.ofBits, Ideal.ieee]; rfl⟩
  positivity

/-- The length of a row. -/
theorem len_eq : Ideal.ofBits .f32 0x44800000#32 = ((1024 : ℝ) : EReal) := by
  simp [Ideal.ofBits, Ideal.ieee, -EReal.coe_mul]; norm_num

/-- One eighth. -/
theorem eighth_eq : Ideal.ofBits .f32 0x3E000000#32 = ((1 / 8 : ℝ) : EReal) := by
  simp [Ideal.ofBits, Ideal.ieee, -EReal.coe_mul]; norm_num

/-- Minus infinity. -/
theorem bot_eq : Ideal.ofBits .f32 0xFF800000#32 = ⊥ := by
  simp [Ideal.ofBits, Ideal.ieee]

/-- Infinity. -/
theorem top_eq : Ideal.ofBits .f32 0x7F800000#32 = ⊤ := by
  simp [Ideal.ofBits, Ideal.ieee]

/-- A normalised row is made of numbers, whatever the row: an infinite entry makes the factor zero. -/
theorem normed_num (x g : Fin 1024 → EReal) (hg : ∀ k, Num (g k)) (k : Fin 1024) : Num (normed x g k) := by
  refine Num.mul ?_ (hg k)
  obtain ⟨e, he, hE⟩ := eps_pos
  by_cases h : ∀ k, Num (x k)
  · choose y hy using h
    refine .mul ⟨_, hy k⟩ ?_
    have hs : (∑ k, x k * x k) = ((∑ k, y k * y k : ℝ) : EReal) := by
      simp only [hy, ← EReal.coe_mul]; exact coe_sum _ _
    have hp : 0 < (∑ k, y k * y k) / 1024 + e := by
      have := Finset.sum_nonneg (s := Finset.univ) fun k _ => mul_self_nonneg (y k)
      positivity
    rw [scale, hs, len_eq, hE, Ideal.div, if_neg (by norm_num), ← EReal.coe_inv, ← EReal.coe_mul, ← EReal.coe_add, ← div_eq_mul_inv]
    refine ⟨(Real.sqrt ((∑ k, y k * y k) / 1024 + e))⁻¹, ?_⟩
    show (if _ < 0 then _ else if _ = 0 then _ else _) = _
    rw [if_neg (not_lt.2 hp.le), if_neg hp.ne']
  · obtain ⟨j, hj⟩ := not_forall.1 h
    have hjj : x j * x j = ⊤ := by
      induction hx : x j with
      | bot => simp
      | top => simp
      | coe r => exact absurd ⟨r, hx⟩ hj
    have hn : ∀ k ∈ Finset.univ, 0 ≤ x k * x k := fun k _ => by
      induction x k with
      | bot => simp
      | top => simp
      | coe r => rw [← EReal.coe_mul]; exact_mod_cast mul_self_nonneg r
    have hs : (∑ k, x k * x k) = ⊤ := top_le_iff.1 (hjj ▸ Finset.single_le_sum hn (Finset.mem_univ j))
    have : scale x = 0 := by
      rw [scale, hs, len_eq, hE, Ideal.div, if_neg (by norm_num)]
      rw [← EReal.coe_inv, EReal.top_mul_coe_of_pos (by norm_num), EReal.top_add_coe]
      rfl
    rw [this, mul_zero]
    exact .zero

/-! ## The softmax -/

/-- The factor between natural and binary exponents. -/
abbrev C : ℝ := (Real.log 2)⁻¹

theorem C_pos : 0 < C := inv_pos.2 (Real.log_pos (by norm_num))

/-- The second is the first scaled, or both are minus infinity. -/
def Scaled (x y : EReal) : Prop := (x = ⊥ ∧ y = ⊥) ∨ ∃ a : ℝ, x = (a : EReal) ∧ y = ((a * C : ℝ) : EReal)

/-- The larger of two stays scaled. -/
theorem Scaled.max {x y x' y' : EReal} (h : Scaled x y) (h' : Scaled x' y') : Scaled (Max.max x x') (Max.max y y') := by
  rcases h with ⟨rfl, rfl⟩ | ⟨a, rfl, rfl⟩
  · rcases h' with ⟨rfl, rfl⟩ | ⟨a, rfl, rfl⟩
    · exact .inl ⟨by simp, by simp⟩
    · exact .inr ⟨a, by simp, by simp⟩
  · rcases h' with ⟨rfl, rfl⟩ | ⟨b, rfl, rfl⟩
    · exact .inr ⟨a, by simp, by simp⟩
    · refine .inr ⟨Max.max a b, ?_, ?_⟩
      · exact (EReal.coe_strictMono.monotone.map_max).symm
      · rw [max_mul_of_nonneg _ _ C_pos.le]
        exact (EReal.coe_strictMono.monotone.map_max).symm

/-- The largest of several stays scaled. -/
theorem Scaled.fold {ι : Type} (s : Finset ι) {f g : ι → EReal} (h : ∀ i, Scaled (f i) (g i)) :
    Scaled (s.fold Max.max ⊥ f) (s.fold Max.max ⊥ g) := by
  classical
  induction s using Finset.induction_on with
  | empty => exact .inl ⟨by simp, by simp⟩
  | insert a s ha ih => rw [Finset.fold_insert ha, Finset.fold_insert ha]; exact (h a).max ih

/-- The power of two of a scaled exponent. -/
theorem exp2_scaled (a : ℝ) : Real.rpow 2 (a * C) = Real.exp a := by
  show (2 : ℝ) ^ (a * C) = _
  rw [Real.rpow_def_of_pos (by norm_num)]
  congr 1
  have : Real.log 2 ≠ 0 := (Real.log_pos (by norm_num)).ne'
  field_simp

/-- The weight of a scaled score. -/
theorem Scaled.weight {x y : EReal} (h : Scaled x y) (μ : ℝ) :
    ∃ p : ℝ, 0 ≤ p ∧ Ideal.exp (x - (μ : EReal)) = (p : EReal) ∧ Ideal.exp2 (y - ((μ * C : ℝ) : EReal)) = (p : EReal) := by
  rcases h with ⟨rfl, rfl⟩ | ⟨a, rfl, rfl⟩
  · exact ⟨0, le_rfl, by rw [EReal.bot_sub]; rfl, by rw [EReal.bot_sub]; rfl⟩
  · refine ⟨Real.exp (a - μ), (Real.exp_pos _).le, by rw [← EReal.coe_sub]; rfl, ?_⟩
    rw [← EReal.coe_sub, ← sub_mul]
    exact congrArg Real.toEReal (exp2_scaled _)

/-- The weighted values, each weight divided by the sum of all of them and the sink's. -/
def soft (m v : Fin 256 → EReal) (z : EReal) : EReal :=
  ∑ n, v n * Ideal.div (Ideal.exp (m n - max (Finset.univ.fold max ⊥ m) z))
    ((∑ n, Ideal.exp (m n - max (Finset.univ.fold max ⊥ m) z)) + Ideal.exp (z - max (Finset.univ.fold max ⊥ m) z))

/-- The weighted values in powers of two, divided once. -/
def soft2 (m v : Fin 256 → EReal) (z : EReal) : EReal :=
  (∑ n, v n * Ideal.exp2 (m n - max (Finset.univ.fold max ⊥ m) z))
    * Ideal.div 1 ((∑ n, Ideal.exp2 (m n - max (Finset.univ.fold max ⊥ m) z)) + Ideal.exp2 (z - max (Finset.univ.fold max ⊥ m) z))

/-- A number that is not negative goes into a sum, whatever its terms. -/
theorem sum_mul_coe {ι : Type} (s : Finset ι) (f : ι → EReal) {r : ℝ} (hr : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

/-- A sink below infinity and the sink in powers of two. -/
theorem Scaled.sink {z : EReal} (hz : z < ⊤) : Scaled z (z * (C : EReal)) := by
  induction z with
  | bot => exact .inl ⟨rfl, EReal.bot_mul_coe_of_pos C_pos⟩
  | top => simp at hz
  | coe r => exact .inr ⟨r, rfl, by push_cast; rfl⟩

/-- Both are the same, whatever the values, where the sink is below infinity and some score is not minus infinity. -/
theorem soft2_eq (m m' v : Fin 256 → EReal) (z : EReal) (hm : ∀ n, Scaled (m n) (m' n)) (n₀ : Fin 256) (h₀ : m n₀ ≠ ⊥) (hz : z < ⊤) :
    soft2 m' v (z * (C : EReal)) = soft m v z := by
  obtain ⟨μ, h1, h2⟩ : ∃ μ : ℝ, max (Finset.univ.fold max ⊥ m) z = μ
      ∧ max (Finset.univ.fold max ⊥ m') (z * (C : EReal)) = ((μ * C : ℝ) : EReal) := by
    rcases (Scaled.fold Finset.univ hm).max (Scaled.sink hz) with ⟨h, -⟩ | h
    · have : m n₀ ≤ ⊥ := h ▸ le_max_of_le_left ((Finset.le_fold_max _).2 (.inr ⟨n₀, Finset.mem_univ _, le_rfl⟩))
      exact absurd (le_bot_iff.1 this) h₀
    · exact h
  obtain ⟨e, he, he1, he2⟩ := (Scaled.sink hz).weight μ
  choose p hp hp1 hp2 using fun n => (hm n).weight μ
  have hpos : 0 < p n₀ := by
    rcases hm n₀ with ⟨h, -⟩ | ⟨a, h, -⟩
    · exact absurd h h₀
    · have h3 := hp1 n₀
      rw [h, ← EReal.coe_sub] at h3
      have h4 : ((Real.exp (a - μ) : ℝ) : EReal) = (p n₀ : EReal) := h3
      rw [← EReal.coe_injective h4]; exact Real.exp_pos _
  rw [soft, soft2, h1, h2]
  simp only [hp1, hp2, he1, he2]
  have hD : 0 < (∑ n, p n) + e :=
    add_pos_of_pos_of_nonneg (hpos.trans_le (Finset.single_le_sum (fun n _ => hp n) (Finset.mem_univ n₀))) he
  rw [coe_sum, ← EReal.coe_add]
  simp only [Ideal.div, EReal.coe_eq_zero, if_neg hD.ne', ← EReal.coe_inv, one_mul]
  rw [sum_mul_coe _ _ (inv_nonneg.2 hD.le)]
  exact Finset.sum_congr rfl fun n _ => mul_assoc _ _ _

/-! ## One batch's attention -/

variable (y : Fin 4096 → Fin 1024 → EReal) (w : Fin 1024 → Fin 1280 → EReal) (b : Fin 1280 → EReal) (z : Fin 2 → Fin 8 → EReal)

/-- Column `c` of the projection of row `s`. -/
def proj (s : Fin 4096) (c : Fin 1280) : EReal := (∑ k, y s k * w k c) + b c

/-- The query of row `s` for head `a` of the eight of key head `kv`, lane `e`. -/
def qry (s : Fin 4096) (kv : Fin 2) (a : Fin 8) (e : Fin 64) : EReal := proj y w b s ⟨64 * (8 * kv.val + a.val) + e.val, by omega⟩

/-- The keys: 128 rows of zeros, then those of the rows. -/
def key (t : Fin 4224) (kv : Fin 2) (e : Fin 64) : EReal :=
  if h : t.val < 128 then 0 else proj y w b ⟨t.val - 128, by omega⟩ ⟨1024 + (64 * kv.val + e.val), by omega⟩

/-- The values, likewise. -/
def value (t : Fin 4224) (kv : Fin 2) (e : Fin 64) : EReal :=
  if h : t.val < 128 then 0 else proj y w b ⟨t.val - 128, by omega⟩ ⟨1152 + (64 * kv.val + e.val), by omega⟩

/-- Query `r` of block `i` sees key `n` of the block's band: the 128 last rows up to its own, from row 0 on. -/
abbrev Seen (i : Fin 32) (r : Fin 128) (n : Fin 256) : Prop := r.val < n.val ∧ n.val ≤ r.val + 128 ∧ (i.val ≠ 0 ∨ 128 ≤ n.val)

/-- A query against a key of its band. -/
def dotted (i : Fin 32) (r : Fin 128) (kv : Fin 2) (a : Fin 8) (n : Fin 256) : EReal :=
  ∑ e, key y w b ⟨128 * i.val + n.val, by omega⟩ kv e * qry y w b ⟨128 * i.val + r.val, by omega⟩ kv a e

/-- A score: one eighth of that where the key is seen. -/
def score (i : Fin 32) (r : Fin 128) (kv : Fin 2) (a : Fin 8) (n : Fin 256) : EReal :=
  if Seen i r n then dotted y w b i r kv a n * ((1 / 8 : ℝ) : EReal) else ⊥

/-- What a head leaves at lane `e` for query `r` of block `i`. -/
def attend (i : Fin 32) (r : Fin 128) (kv : Fin 2) (a : Fin 8) (e : Fin 64) : EReal :=
  soft (score y w b i r kv a) (fun n => value y w b ⟨128 * i.val + n.val, by omega⟩ kv e) (z kv a)

/-- The heads side by side, column `c` of row `s`. -/
def attended (s : Fin 4096) (c : Fin 1024) : EReal :=
  attend y w b z ⟨s.val / 128, by omega⟩ ⟨s.val % 128, by omega⟩ ⟨c.val / 512, by omega⟩ ⟨c.val / 64 % 8, by omega⟩ ⟨c.val % 64, by omega⟩

end Cert.AttnRow

end
-- ==== Proof.AttnWord.lean ====
/- The reference's mask, computed in 32-bit words: which keys of its band a query sees. -/
module

public import proofs.«01_k».proof.Proof.AttnSoft
public import Idealize.ShloMosaic.Lib.WordCmp

@[expose] public section

open Idealize.ShloMosaic Idealize.ShloMosaic.WordCmp

namespace Cert.AttnRow

/-- A small sum of words. -/
theorem toInt_addw {x y : BitVec 32} {a b : ℤ} (hx : x.toInt = a) (hy : y.toInt = b) (h1 : -10000 < a + b) (h2 : a + b < 10000) :
    (IntOp.addi x y).toInt = a + b := by
  show (x + y).toInt = _
  rw [BitVec.toInt_add, hx, hy]
  exact Int.bmod_eq_of_le (by omega) (by omega)

/-- A small difference of words. -/
theorem toInt_subw {x y : BitVec 32} {a b : ℤ} (hx : x.toInt = a) (hy : y.toInt = b) (h1 : -10000 < a - b) (h2 : a - b < 10000) :
    (IntOp.subi x y).toInt = a - b := by
  show (x - y).toInt = _
  rw [BitVec.toInt_sub, hx, hy]
  exact Int.bmod_eq_of_le (by omega) (by omega)

/-- A small product of words. -/
theorem toInt_mulw {x y : BitVec 32} {a b : ℤ} (hx : x.toInt = a) (hy : y.toInt = b) (h1 : -10000 < a * b) (h2 : a * b < 10000) :
    (IntOp.muli x y).toInt = a * b := by
  show (x * y).toInt = _
  rw [BitVec.toInt_mul, hx, hy]
  exact Int.bmod_eq_of_le (by omega) (by omega)

/-- A small word. -/
theorem toInt_small {n : ℕ} (h : n < 10000) : (BitVec.ofNat 32 n).toInt = (n : ℤ) :=
  toInt_ofNat_of_lt (by omega)

/-- A word comparison of known integers. -/
theorem sge_of {x y : BitVec 32} {a b : ℤ} (hx : x.toInt = a) (hy : y.toInt = b) : IntOp.cmpi .sge x y = if b ≤ a then 1#1 else 0#1 := by
  rw [cmpi_sge_eq, hx, hy]
  by_cases h : b ≤ a <;> simp [h]

/-- A word comparison of known integers. -/
theorem slt_of {x y : BitVec 32} {a b : ℤ} (hx : x.toInt = a) (hy : y.toInt = b) : IntOp.cmpi .slt x y = if a < b then 1#1 else 0#1 := by
  rw [cmpi_slt_eq, hx, hy]
  by_cases h : a < b <;> simp [h]

/-- Three conditions as bits. -/
theorem bits (P Q S T : Prop) [Decidable P] [Decidable Q] [Decidable S] [Decidable T] (h : T ↔ P ∧ Q ∧ S) :
    IntOp.andi (IntOp.andi (if P then 1#1 else 0#1) (if Q then 1#1 else 0#1)) (if S then 1#1 else 0#1) = if T then 1#1 else 0#1 := by
  by_cases hp : P <;> by_cases hq : Q <;> by_cases hs : S <;> simp only [h, hp, hq, hs, and_true, and_false, false_and, if_true, if_false] <;> rfl

/-- The reference's mask of a query and a key of its band is the band of the keys it sees. -/
theorem mask (i : Fin 32) (r : Fin 128) (m : Fin 256) :
    IntOp.andi (IntOp.andi
        (IntOp.cmpi CmpIPredicate.sge
          (IntOp.subi (IntOp.addi (IntOp.muli (BitVec.ofNat 32 i.val) 128#32) (BitVec.ofNat 32 r.val))
            (IntOp.addi (IntOp.subi (IntOp.muli (BitVec.ofNat 32 i.val) 128#32) 128#32) (BitVec.ofNat 32 m.val))) 0#32)
        (IntOp.cmpi CmpIPredicate.slt
          (IntOp.subi (IntOp.addi (IntOp.muli (BitVec.ofNat 32 i.val) 128#32) (BitVec.ofNat 32 r.val))
            (IntOp.addi (IntOp.subi (IntOp.muli (BitVec.ofNat 32 i.val) 128#32) 128#32) (BitVec.ofNat 32 m.val))) 128#32))
      (IntOp.cmpi CmpIPredicate.sge
        (IntOp.addi (IntOp.subi (IntOp.muli (BitVec.ofNat 32 i.val) 128#32) 128#32) (BitVec.ofNat 32 m.val)) 0#32)
      = if Seen i r m then 1#1 else 0#1 := by
  have h128 : (128#32).toInt = 128 := rfl
  have h0 : (0#32).toInt = 0 := rfl
  have hi := i.isLt
  have hr := r.isLt
  have hm := m.isLt
  have e1 := toInt_mulw (toInt_small (n := i.val) (by omega)) h128 (by omega) (by omega)
  have e2 := toInt_addw e1 (toInt_small (n := r.val) (by omega)) (by omega) (by omega)
  have e3 := toInt_subw e1 h128 (by omega) (by omega)
  have e4 := toInt_addw e3 (toInt_small (n := m.val) (by omega)) (by omega) (by omega)
  have e5 := toInt_subw e2 e4 (by omega) (by omega)
  rw [sge_of e5 h0, slt_of e5 h128, sge_of e4 h0]
  have k1 : (0 ≤ ((i.val : ℤ) * 128 + r.val - ((i.val : ℤ) * 128 - 128 + m.val))) ↔ m.val ≤ r.val + 128 := by omega
  have k2 : ((i.val : ℤ) * 128 + r.val - ((i.val : ℤ) * 128 - 128 + m.val) < 128) ↔ r.val < m.val := by omega
  have k3 : (0 ≤ (i.val : ℤ) * 128 - 128 + m.val) ↔ (i.val ≠ 0 ∨ 128 ≤ m.val) := by omega
  simp only [k1, k2, k3]
  refine bits _ _ _ _ ?_
  show r.val < m.val ∧ m.val ≤ r.val + 128 ∧ (i.val ≠ 0 ∨ 128 ≤ m.val) ↔ _
  tauto

end Cert.AttnRow
-- ==== Proof.AttnTileRow.lean ====
/- What one tile computes, in the terms of one batch's attention. -/
module

public import proofs.«01_k».proof.Proof.AttnOut
public import proofs.«01_k».proof.Proof.AttnSoft
public import proofs.«01_k».proof.Proof.AttnWord

@[expose] public section

set_option maxRecDepth 16384

noncomputable section

open Idealize.ShloMosaic Idealize.ShloMosaic.TcCoe Idealize.SL.Sem

namespace Cert.AttnIdeal.Tile

open Cert.AttnIdeal Cert.AttnIdeal.Gen Cert.MlpRow Cert.AttnRow

variable (L : In) (c : Fin 4) (y : Fin 4096 → Fin 1024 → EReal) (w : Fin 1024 → Fin 1280 → EReal) (b : Fin 1280 → EReal) (z : Fin 2 → Fin 8 → EReal)

/-- The tile's rows and weights are those of rows `1024 c` on of the batch. -/
structure Holds : Prop where
  y : ∀ (p : Fin 4) (r : Fin 256) (k : Fin 1024), L.y p (ix2 r k) = y ⟨1024 * c.val + 256 * p.val + r.val, by omega⟩ k
  wq : ∀ (n : Fin 4) (k : Fin 1024) (j : Fin 256), L.wq n (ix2 k j) = w k ⟨256 * n.val + j.val, by omega⟩
  bq : ∀ (n : Fin 4) (j : Fin 256), L.bq n (ix2 0 j) = b ⟨256 * n.val + j.val, by omega⟩
  wk : ∀ (k : Fin 1024) (j : Fin 128), L.wk (ix2 k j) = w k ⟨1024 + j.val, by omega⟩
  bk : ∀ j : Fin 128, L.bk (ix2 0 j) = b ⟨1024 + j.val, by omega⟩
  wv : ∀ (k : Fin 1024) (j : Fin 128), L.wv (ix2 j k) = w k ⟨1152 + j.val, by omega⟩
  bv : ∀ j r : Fin 128, L.bv (ix2 j r) = b ⟨1152 + j.val, by omega⟩

/-- What is carried in, the sinks and the first mask are right too. -/
structure Carries : Prop where
  kc : ∀ (kv d : Fin 2) (r l : Fin 128), L.kc (ix3 ⟨2 * kv.val + d.val, by omega⟩ r l)
    = if l.val / 64 = d.val then key y w b ⟨1024 * c.val + r.val, by omega⟩ kv ⟨l.val % 64, by omega⟩ else 0
  vc : ∀ (kv : Fin 2) (e : Fin 64) (r : Fin 128), L.vc (ix4 kv 0 e r) = value y w b ⟨1024 * c.val + r.val, by omega⟩ kv e
  sink : ∀ (kv : Fin 2) (a : Fin 8), L.sink ⟨8 * kv.val + a.val, by omega⟩ = z kv a
  b0 : ∀ (n : Fin 256) (r : Fin 128), L.b0 (ix2 n r) = if Seen ⟨8 * c.val, by omega⟩ r n then 0 else ⊥

variable {L c y w b z}

/-- A key of the tile. -/
theorem Holds.keys_at (H : Holds L c y w b) (p : Fin 4) (r : Fin 256) (j : Fin 128) :
    keys (L.y p) L.wk L.bk (ix2 r j) = proj y w b ⟨1024 * c.val + 256 * p.val + r.val, by omega⟩ ⟨1024 + j.val, by omega⟩ := by
  rw [Tile.keys_at, proj, H.bk]
  simp only [H.y, H.wk]

/-- A key in one of its layouts: lanes of half `d` hold head `kv`, the others nothing. -/
theorem kV_at (kv d : Fin 2) (k : FVec Ideal S256x128 .f32) (r : Fin 256) (l : Fin 128) :
    kV ⟨2 * kv.val + d.val, by omega⟩ k (ix3 0 r l) = if l.val / 64 = d.val then k (ix2 r ⟨64 * kv.val + l.val % 64, by omega⟩) else 0 := by
  have hl := l.isLt
  fin_cases kv <;> fin_cases d
  · show keepLow k (ix3 0 r l) = _
    rw [keepLow_at]
    by_cases h : l.val < 64
    · rw [if_pos h, if_pos (by simp only []; omega)]
      exact congrArg k (congrArg (ix2 r) (Fin.ext (by simp only []; omega)))
    · rw [if_neg h, if_neg (by simp only []; omega)]
  · show keepHigh (swapped k) (ix3 0 r l) = _
    rw [keepHigh_at, swapped_at]
    by_cases h : l.val < 64
    · rw [if_pos h, if_neg (by simp only []; omega)]
    · rw [if_neg h, if_pos (by simp only []; omega)]
      exact congrArg k (congrArg (ix2 r) (Fin.ext (by simp only []; omega)))
  · show keepLow (swapped k) (ix3 0 r l) = _
    rw [keepLow_at, swapped_at]
    by_cases h : l.val < 64
    · rw [if_pos h, if_pos (by simp only []; omega)]
      exact congrArg k (congrArg (ix2 r) (Fin.ext (by simp only []; omega)))
    · rw [if_neg h, if_neg (by simp only []; omega)]
  · show keepHigh k (ix3 0 r l) = _
    rw [keepHigh_at]
    by_cases h : l.val < 64
    · rw [if_pos h, if_neg (by simp only []; omega)]
    · rw [if_neg h, if_pos (by simp only []; omega)]
      exact congrArg k (congrArg (ix2 r) (Fin.ext (by simp only []; omega)))

/-- The key array holds the batch's keys, past what is carried in. -/
theorem Holds.kS_new (H : Holds L c y w b) (kv d : Fin 2) (ρ : Fin 1152) (hρ : 128 ≤ ρ.val) (l : Fin 128) :
    kS L ⟨2 * kv.val + d.val, by omega⟩ ρ l
      = if l.val / 64 = d.val then key y w b ⟨1024 * c.val + ρ.val, by omega⟩ kv ⟨l.val % 64, by omega⟩ else 0 := by
  rw [kS, dif_neg (by omega), kV_at, H.keys_at, key, dif_neg (by simp only []; omega)]
  have e : (⟨1024 * c.val + 256 * ((ρ.val - 128) / 256) + (ρ.val - 128) % 256, by omega⟩ : Fin 4096) = ⟨1024 * c.val + ρ.val - 128, by omega⟩ :=
    Fin.ext (by simp only []; omega)
  rw [e]

/-- The value array holds the batch's values, past what is carried in. -/
theorem Holds.vS_new (H : Holds L c y w b) (kv : Fin 2) (i : Fin 9) (hi : 1 ≤ i.val) (e : Fin 64) (r : Fin 128) :
    vS L kv i e r = value y w b ⟨1024 * c.val + 128 * i.val + r.val, by omega⟩ kv e := by
  rw [vS, dif_neg (by omega), values_at _ _ _ _ ⟨(i.val - 1) % 2, by omega⟩, value, dif_neg (by simp only []; omega), proj, H.bv]
  simp only [H.y, H.wv]
  have e1 : (⟨1024 * c.val + 256 * ((i.val - 1) / 2) + (128 * ((i.val - 1) % 2) + r.val), by omega⟩ : Fin 4096)
      = ⟨1024 * c.val + 128 * i.val + r.val - 128, by omega⟩ := Fin.ext (by simp only []; omega)
  rw [e1]
  exact congrArg (· + _) (Finset.sum_congr rfl fun k _ => mul_comm _ _)

/-- A query of the tile, in its lane. -/
theorem Holds.qS_at (H : Holds L c y w b) (i : Fin 8) (kv : Fin 2) (j : Fin 4) (r l : Fin 128) :
    qS L i ⟨512 * kv.val + (128 * j.val + r.val), by omega⟩ l
      = qry y w b ⟨1024 * c.val + 128 * i.val + r.val, by omega⟩ kv ⟨2 * j.val + l.val / 64, by omega⟩ ⟨l.val % 64, by omega⟩ * c8 := by
  rw [qS, query_at, qry, proj, H.bq]
  simp only [H.y, H.wq]
  have e1 : (⟨1024 * c.val + 256 * (i.val / 2) + (128 * (i.val % 2) + (512 * kv.val + (128 * j.val + r.val)) % 128), by omega⟩ : Fin 4096)
      = ⟨1024 * c.val + 128 * i.val + r.val, by omega⟩ := Fin.ext (by simp only []; omega)
  have e2 : (⟨256 * ((512 * kv.val + (128 * j.val + r.val)) / 256) + (128 * ((512 * kv.val + (128 * j.val + r.val)) / 128 % 2) + l.val), by omega⟩ : Fin 1280)
      = ⟨64 * (8 * kv.val + (2 * j.val + l.val / 64)) + l.val % 64, by omega⟩ := Fin.ext (by simp only []; omega)
  rw [e1, e2]

/-- A sum over the lanes that holds only half `d` is the sum over that half. -/
theorem sum_half (d : Fin 2) (F : Fin 64 → EReal) (G : Fin 128 → EReal) :
    (∑ l : Fin 128, (if l.val / 64 = d.val then F ⟨l.val % 64, by omega⟩ else 0) * G l) = ∑ e : Fin 64, F e * G ⟨64 * d.val + e.val, by omega⟩ := by
  rw [Fin.sum_univ_add (a := 64) (b := 64) (fun l : Fin (64 + 64) => (if l.val / 64 = d.val then F ⟨l.val % 64, by omega⟩ else 0) * G l)]
  have hlow (e : Fin 64) : (⟨(Fin.castAdd 64 e).val % 64, by omega⟩ : Fin 64) = e := Fin.ext (by simp only [Fin.val_castAdd]; omega)
  have hhigh (e : Fin 64) : (⟨(Fin.natAdd 64 e).val % 64, by omega⟩ : Fin 64) = e := Fin.ext (by simp only [Fin.val_natAdd]; omega)
  have dlow (e : Fin 64) : (Fin.castAdd 64 e).val / 64 = 0 := by simp only [Fin.val_castAdd]; omega
  have dhigh (e : Fin 64) : (Fin.natAdd 64 e).val / 64 = 1 := by simp only [Fin.val_natAdd]; omega
  simp only [hlow, hhigh, dlow, dhigh]
  obtain hd | hd : d.val = 0 ∨ d.val = 1 := by omega
  · rw [Finset.sum_eq_zero (s := Finset.univ) (f := fun e : Fin 64 => (if 1 = d.val then F e else 0) * G (Fin.natAdd 64 e))
      (fun e _ => by rw [if_neg (by omega), zero_mul]), add_zero]
    exact Finset.sum_congr rfl fun e _ => by
      rw [if_pos (by omega)]
      exact congrArg (F e * G ·) (Fin.ext (by simp only [Fin.val_castAdd]; omega))
  · rw [Finset.sum_eq_zero (s := Finset.univ) (f := fun e : Fin 64 => (if 0 = d.val then F e else 0) * G (Fin.castAdd 64 e))
      (fun e _ => by rw [if_neg (by omega), zero_mul]), zero_add]
    exact Finset.sum_congr rfl fun e _ => by
      rw [if_pos (by omega)]
      exact congrArg (F e * G ·) (Fin.ext (by simp only [Fin.val_natAdd]; omega))

end Cert.AttnIdeal.Tile

end
-- ==== Proof.AttnTileOut.lean ====
/- A tile's attention and output are the batch's. -/
module

public import proofs.«01_k».proof.Proof.AttnTileRow

@[expose] public section

set_option maxRecDepth 16384

noncomputable section

open Idealize.ShloMosaic.WordCmp
open Idealize.ShloMosaic Idealize.ShloMosaic.TcCoe Idealize.SL.Sem

namespace Cert.AttnIdeal.Tile

open Cert.AttnIdeal Cert.AttnIdeal.Gen Cert.MlpRow Cert.AttnRow

variable {L : In} {c : Fin 4} {y : Fin 4096 → Fin 1024 → EReal} {w : Fin 1024 → Fin 1280 → EReal} {b : Fin 1280 → EReal} {z : Fin 2 → Fin 8 → EReal}

/-- The key array holds the batch's keys. -/
theorem kS_key (H : Holds L c y w b) (K : Carries L c y w b z) (kv d : Fin 2) (ρ : Fin 1152) (l : Fin 128) :
    kS L ⟨2 * kv.val + d.val, by omega⟩ ρ l
      = if l.val / 64 = d.val then key y w b ⟨1024 * c.val + ρ.val, by omega⟩ kv ⟨l.val % 64, by omega⟩ else 0 := by
  by_cases h : ρ.val < 128
  · rw [kS, dif_pos h, K.kc]
  · exact H.kS_new kv d ρ (by omega) l

/-- The value array holds the batch's values. -/
theorem vS_value (H : Holds L c y w b) (K : Carries L c y w b z) (kv : Fin 2) (i : Fin 9) (e : Fin 64) (r : Fin 128) :
    vS L kv i e r = value y w b ⟨1024 * c.val + 128 * i.val + r.val, by omega⟩ kv e := by
  by_cases h : i.val < 1
  · have h0 : (⟨i.val, h⟩ : Fin 1) = 0 := Fin.ext (by simp only [Fin.val_zero]; omega)
    rw [vS, dif_pos h, h0, K.vc]
    exact congrArg (fun t => value y w b t kv e) (Fin.ext (by simp only []; omega))
  · exact H.vS_new kv i (by omega) e r

/-- The band's mask. -/
theorem band_at (n : Fin 256) (r : Fin 128) : band (ix2 n r) = if r.val < n.val ∧ n.val ≤ r.val + 128 then 0 else ⊥ := by
  have hn : (BitVec.ofNat 32 n.val).toInt = (n.val : ℤ) := toInt_small (by omega)
  have hr : (BitVec.ofNat 32 r.val).toInt = (r.val : ℤ) := toInt_small (by omega)
  have h128 : (128#32).toInt = (128 : ℤ) := by decide
  have e1 : IntOp.cmpi CmpIPredicate.sgt (BitVec.ofNat 32 n.val) (BitVec.ofNat 32 r.val) = if r.val < n.val then 1#1 else 0#1 := by
    rw [cmpi_sgt_eq, hn, hr]
    by_cases h : r.val < n.val <;> simp [h]
  have e2 : IntOp.cmpi CmpIPredicate.sle (BitVec.ofNat 32 n.val) (IntOp.addi (BitVec.ofNat 32 r.val) 128#32) = if n.val ≤ r.val + 128 then 1#1 else 0#1 := by
    rw [cmpi_sle_eq, hn, toInt_addw hr h128 (by omega) (by omega)]
    by_cases h : n.val ≤ r.val + 128
    · rw [if_pos h, decide_eq_true (by omega)]; rfl
    · rw [if_neg h, decide_eq_false (by omega)]; rfl
  pointwise [band, k0_pay57, k0_pay56]
  rw [e1, e2, bot_eq]
  by_cases h1 : r.val < n.val <;> by_cases h2 : n.val ≤ r.val + 128 <;> simp only [h1, h2, if_true, if_false, and_true, and_false, and_self] <;> rfl

/-- Every block's mask. -/
theorem bias_at (K : Carries L c y w b z) (i : Fin 8) (n : Fin 256) (r : Fin 128) :
    biasS L i (ix2 n r) = if Seen ⟨8 * c.val + i.val, by omega⟩ r n then 0 else ⊥ := by
  rw [biasS]
  by_cases h : i.val = 0
  · rw [if_pos h, K.b0]
    simp only [h, Nat.add_zero]
  · rw [if_neg h, band_at]
    by_cases h1 : r.val < n.val ∧ n.val ≤ r.val + 128
    · rw [if_pos h1, if_pos ⟨h1.1, h1.2, .inl (by simp only []; omega)⟩]
    · rw [if_neg h1, if_neg fun h => h1 ⟨h.1, h.2.1⟩]

/-- A masked score of the tile. -/
theorem headScores_eq (H : Holds L c y w b) (K : Carries L c y w b z) (i : Fin 8) (kv d : Fin 2) (j : Fin 4) (n : Fin 256) (r : Fin 128) :
    headScores (biasS L i) (kB L ⟨2 * kv.val, by omega⟩ i) (kB L ⟨2 * kv.val + 1, by omega⟩ i) (qB L i kv) (qB L i kv) d j (ix2 n r)
      = (∑ e : Fin 64, key y w b ⟨1024 * c.val + (128 * i.val + n.val), by omega⟩ kv e
            * (qry y w b ⟨1024 * c.val + 128 * i.val + r.val, by omega⟩ kv ⟨2 * j.val + d.val, by omega⟩ e * c8))
        + if Seen ⟨8 * c.val + i.val, by omega⟩ r n then 0 else ⊥ := by
  rw [headScores_at, bias_at K, ite_self]
  have hk : (if d = 0 then kB L ⟨2 * kv.val, by omega⟩ i else kB L ⟨2 * kv.val + 1, by omega⟩ i) = kB L ⟨2 * kv.val + d.val, by omega⟩ i := by
    fin_cases d <;> rfl
  rw [hk]
  refine congrArg (· + _) ?_
  have hl (l : Fin 128) : kB L ⟨2 * kv.val + d.val, by omega⟩ i (ix3 0 n l)
      = if l.val / 64 = d.val then key y w b ⟨1024 * c.val + (128 * i.val + n.val), by omega⟩ kv ⟨l.val % 64, by omega⟩ else 0 :=
    kS_key H K kv d ⟨128 * i.val + n.val, by omega⟩ l
  have hq (l : Fin 128) : qB L i kv (ix3 0 ⟨128 * j.val + r.val, by omega⟩ l)
      = qry y w b ⟨1024 * c.val + 128 * i.val + r.val, by omega⟩ kv ⟨2 * j.val + l.val / 64, by omega⟩ ⟨l.val % 64, by omega⟩ * c8 :=
    H.qS_at i kv j r l
  simp only [hl, hq]
  refine (sum_half d (fun e => key y w b ⟨1024 * c.val + (128 * i.val + n.val), by omega⟩ kv e)
    (fun l => qry y w b ⟨1024 * c.val + 128 * i.val + r.val, by omega⟩ kv ⟨2 * j.val + l.val / 64, by omega⟩ ⟨l.val % 64, by omega⟩ * c8)).trans ?_
  refine Finset.sum_congr rfl fun e _ => ?_
  have h1 : (⟨2 * j.val + (64 * d.val + e.val) / 64, by omega⟩ : Fin 8) = ⟨2 * j.val + d.val, by omega⟩ := Fin.ext (by simp only []; omega)
  have h2 : (⟨(64 * d.val + e.val) % 64, by omega⟩ : Fin 64) = e := Fin.ext (by simp only []; omega)
  simp only [h1, h2]

/-- A query's or a key's projection of numbers is a number. -/
theorem proj_num (hy : ∀ s k, Num (y s k)) (hw : ∀ k, ∀ j : Fin 1280, j.val < 1152 → Num (w k j)) (hb : ∀ j : Fin 1280, j.val < 1152 → Num (b j)) (s : Fin 4096)
    (j : Fin 1280) (hj : j.val < 1152) : Num (proj y w b s j) :=
  .add (.sum fun k => .mul (hy s k) (hw k j hj)) (hb j hj)

/-- So a query is. -/
theorem qry_num (hy : ∀ s k, Num (y s k)) (hw : ∀ k, ∀ j : Fin 1280, j.val < 1152 → Num (w k j)) (hb : ∀ j : Fin 1280, j.val < 1152 → Num (b j)) (s : Fin 4096)
    (kv : Fin 2) (a : Fin 8) (e : Fin 64) : Num (qry y w b s kv a e) := proj_num hy hw hb _ _ (by simp only []; omega)

/-- And a key. -/
theorem key_num (hy : ∀ s k, Num (y s k)) (hw : ∀ k, ∀ j : Fin 1280, j.val < 1152 → Num (w k j)) (hb : ∀ j : Fin 1280, j.val < 1152 → Num (b j)) (t : Fin 4224)
    (kv : Fin 2) (e : Fin 64) : Num (key y w b t kv e) := by
  rw [key]
  split
  · exact .zero
  · exact proj_num hy hw hb _ _ (by simp only []; omega)

/-- A query sees its own row's key, with a number as its score. -/
theorem score_own (hy : ∀ s k, Num (y s k)) (hw : ∀ k, ∀ j : Fin 1280, j.val < 1152 → Num (w k j)) (hb : ∀ j : Fin 1280, j.val < 1152 → Num (b j)) (i : Fin 32)
    (r : Fin 128) (kv : Fin 2) (a : Fin 8) : score y w b i r kv a ⟨r.val + 128, by omega⟩ ≠ ⊥ := by
  rw [score, if_pos ⟨by simp only []; omega, le_rfl, .inr (by simp only []; omega)⟩]
  obtain ⟨x, hx⟩ : Num (dotted y w b i r kv a ⟨r.val + 128, by omega⟩ * ((1 / 8 : ℝ) : EReal)) :=
    .mul (.sum fun e => .mul (key_num hy hw hb _ kv e) (qry_num hy hw hb _ kv a e)) ⟨_, rfl⟩
  rw [hx]
  exact EReal.coe_ne_bot x

/-- The tile's scores are the batch's, scaled. -/
theorem scaled (hy : ∀ s k, Num (y s k)) (hw : ∀ k, ∀ j : Fin 1280, j.val < 1152 → Num (w k j)) (hb : ∀ j : Fin 1280, j.val < 1152 → Num (b j)) (i : Fin 32) (r : Fin 128) (kv : Fin 2) (a : Fin 8) (n : Fin 256) :
    Scaled (score y w b i r kv a n)
      ((∑ e : Fin 64, key y w b ⟨128 * i.val + n.val, by omega⟩ kv e * (qry y w b ⟨128 * i.val + r.val, by omega⟩ kv a e * c8)) + if Seen i r n then 0 else ⊥) := by
  rw [score]
  by_cases h : Seen i r n
  · rw [if_pos h, if_pos h, add_zero, dotted]
    choose k hk using fun e => key_num (y := y) (w := w) (b := b) hy hw hb ⟨128 * i.val + n.val, by omega⟩ kv e
    choose q hq' using fun e => qry_num (y := y) (w := w) (b := b) hy hw hb ⟨128 * i.val + r.val, by omega⟩ kv a e
    have h1 : (∑ e, key y w b ⟨128 * i.val + n.val, by omega⟩ kv e * qry y w b ⟨128 * i.val + r.val, by omega⟩ kv a e) = ((∑ e, k e * q e : ℝ) : EReal) := by
      simp only [hk, hq', ← EReal.coe_mul]
      exact coe_sum _ _
    have h2 : (∑ e, key y w b ⟨128 * i.val + n.val, by omega⟩ kv e * (qry y w b ⟨128 * i.val + r.val, by omega⟩ kv a e * c8))
        = ((∑ e, k e * (q e * ((1 / 8) * C)) : ℝ) : EReal) := by
      simp only [hk, hq', c8, ← EReal.coe_mul]
      exact coe_sum _ _
    refine .inr ⟨(∑ e, k e * q e) * (1 / 8), by rw [h1, ← EReal.coe_mul], ?_⟩
    rw [h2, Finset.sum_mul, Finset.sum_mul]
    exact congrArg Real.toEReal (Finset.sum_congr rfl fun e _ => by ring)
  · rw [if_neg h, if_neg h, EReal.add_bot]
    exact .inl ⟨rfl, rfl⟩

/-- What the tile's attention leaves is the batch's. -/
theorem att_eq (H : Holds L c y w b) (K : Carries L c y w b z) (hy : ∀ s k, Num (y s k)) (hw : ∀ k, ∀ j : Fin 1280, j.val < 1152 → Num (w k j)) (hb : ∀ j : Fin 1280, j.val < 1152 → Num (b j)) (hz : ∀ kv a, z kv a < ⊤)
    (i : Fin 8) (kv : Fin 2) (j : Fin 4) (d : Fin 2) (e : Fin 64) (r : Fin 128) (ρ k : Fin 1024)
    (hρ : ρ.val = 128 * i.val + r.val) (hk : k.val = 512 * kv.val + 128 * j.val + 64 * d.val + e.val) :
    att L ρ k = attend y w b z ⟨8 * c.val + i.val, by omega⟩ r kv ⟨2 * j.val + d.val, by omega⟩ e := by
  rw [att_at L i kv j d e r ρ k hρ hk, headsS, heads_at _ _ _ _ _ _ _ (sinkS L kv)]
  have hz' : sinkS L kv ⟨4 * d.val + j.val, by omega⟩ = z kv ⟨2 * j.val + d.val, by omega⟩ := by
    rw [sinkS, ← K.sink]
    exact congrArg L.sink (Fin.ext (by simp only []; omega))
  rw [hz', attend, ← soft2_eq _ _ _ _ (fun n => scaled hy hw hb ⟨8 * c.val + i.val, by omega⟩ r kv ⟨2 * j.val + d.val, by omega⟩ n)
    _ (score_own hy hw hb _ r kv _) (hz kv _), soft2, inverse_at]
  simp only [weights_at, top_at, bot_eq]
  have hs (n : Fin 256) := headScores_eq H K i kv d j n r
  simp only [hs]
  have e1 (n : Fin 256) : (⟨1024 * c.val + (128 * i.val + n.val), by omega⟩ : Fin 4224) = ⟨128 * (8 * c.val + i.val) + n.val, by omega⟩ :=
    Fin.ext (by simp only []; omega)
  have e2 : (⟨1024 * c.val + 128 * i.val + r.val, by omega⟩ : Fin 4096) = ⟨128 * (8 * c.val + i.val) + r.val, by omega⟩ :=
    Fin.ext (by simp only []; omega)
  simp only [e1, e2]
  refine congrArg (· * _) ?_
  rw [Fin.sum_univ_add (a := 128) (b := 128) (fun n : Fin (128 + 128) => value y w b ⟨128 * (8 * c.val + i.val) + n.val, by omega⟩ kv e * _)]
  refine congr (congrArg _ (Finset.sum_congr rfl fun n _ => ?_)) (Finset.sum_congr rfl fun n _ => ?_)
  · have hv : vB L kv ⟨i.val, by omega⟩ (ix4 0 0 e n) = value y w b ⟨128 * (8 * c.val + i.val) + (Fin.castAdd 128 n).val, by simp only [Fin.val_castAdd]; omega⟩ kv e :=
      (vS_value H K kv ⟨i.val, by omega⟩ e n).trans (congrArg (fun t => value y w b t kv e) (Fin.ext (by simp only [Fin.val_castAdd]; omega)))
    have e3 : (⟨1024 * c.val + (128 * i.val + n.val), by omega⟩ : Fin 4224)
        = ⟨128 * (8 * c.val + i.val) + (Fin.castAdd 128 n).val, by simp only [Fin.val_castAdd]; omega⟩ := e1 ⟨n.val, by omega⟩
    rw [hv, e3]
    rfl
  · have hv : vB L kv ⟨i.val + 1, by omega⟩ (ix4 0 0 e n) = value y w b ⟨128 * (8 * c.val + i.val) + (Fin.natAdd 128 n).val, by simp only [Fin.val_natAdd]; omega⟩ kv e :=
      (vS_value H K kv ⟨i.val + 1, by omega⟩ e n).trans (congrArg (fun t => value y w b t kv e) (Fin.ext (by simp only [Fin.val_natAdd]; omega)))
    have e3 : (⟨1024 * c.val + (128 * i.val + (128 + n.val)), by omega⟩ : Fin 4224)
        = ⟨128 * (8 * c.val + i.val) + (Fin.natAdd 128 n).val, by simp only [Fin.val_natAdd]; omega⟩ := e1 ⟨128 + n.val, by omega⟩
    rw [hv, e3]
    rfl

/-- The same in the batch's rows and columns. -/
theorem att_attended (H : Holds L c y w b) (K : Carries L c y w b z) (hy : ∀ s k, Num (y s k)) (hw : ∀ k, ∀ j : Fin 1280, j.val < 1152 → Num (w k j)) (hb : ∀ j : Fin 1280, j.val < 1152 → Num (b j)) (hz : ∀ kv a, z kv a < ⊤)
    (ρ k : Fin 1024) : att L ρ k = attended y w b z ⟨1024 * c.val + ρ.val, by omega⟩ k := by
  rw [att_eq H K hy hw hb hz ⟨ρ.val / 128, by omega⟩ ⟨k.val / 512, by omega⟩ ⟨k.val / 128 % 4, by omega⟩ ⟨k.val / 64 % 2, by omega⟩
    ⟨k.val % 64, by omega⟩ ⟨ρ.val % 128, by omega⟩ ρ k (by simp only []; omega) (by simp only []; omega), attended]
  have e1 : (⟨8 * c.val + ρ.val / 128, by omega⟩ : Fin 32) = ⟨(1024 * c.val + ρ.val) / 128, by omega⟩ := Fin.ext (by simp only []; omega)
  have e2 : (⟨ρ.val % 128, by omega⟩ : Fin 128) = ⟨(1024 * c.val + ρ.val) % 128, by omega⟩ := Fin.ext (by simp only []; omega)
  have e3 : (⟨2 * (k.val / 128 % 4) + k.val / 64 % 2, by omega⟩ : Fin 8) = ⟨k.val / 64 % 8, by omega⟩ := Fin.ext (by simp only []; omega)
  rw [e1, e2, e3]

/-- The tile's output. -/
theorem out_attended (H : Holds L c y w b) (K : Carries L c y w b z) (hy : ∀ s k, Num (y s k)) (hw : ∀ k, ∀ j : Fin 1280, j.val < 1152 → Num (w k j)) (hb : ∀ j : Fin 1280, j.val < 1152 → Num (b j)) (hz : ∀ kv a, z kv a < ⊤)
    (X : Fin 4096 → Fin 1024 → EReal) (wo : Fin 1024 → Fin 1024 → EReal) (bo : Fin 1024 → EReal)
    (hx : ∀ (p n : Fin 4) (r j : Fin 256), L.xo p n (ix3 0 r j) = X ⟨1024 * c.val + 256 * p.val + r.val, by omega⟩ ⟨256 * n.val + j.val, by omega⟩)
    (hwo : ∀ (n : Fin 4) (k : Fin 1024) (j : Fin 256), L.wo n (ix2 k j) = wo k ⟨256 * n.val + j.val, by omega⟩)
    (hbo : ∀ (n : Fin 4) (j : Fin 256), L.bo n (ix2 0 j) = bo ⟨256 * n.val + j.val, by omega⟩) (ρ k : Fin 1024) :
    out L ρ k = X ⟨1024 * c.val + ρ.val, by omega⟩ k + ((∑ a, attended y w b z ⟨1024 * c.val + ρ.val, by omega⟩ a * wo a k) + bo k) := by
  rw [out, hx, hbo]
  simp only [hwo, att_attended H K hy hw hb hz]
  have e1 : (⟨1024 * c.val + 256 * (ρ.val / 256) + ρ.val % 256, by omega⟩ : Fin 4096) = ⟨1024 * c.val + ρ.val, by omega⟩ := Fin.ext (by simp only []; omega)
  have e2 : (⟨256 * (k.val / 256) + k.val % 256, by omega⟩ : Fin 1024) = k := Fin.ext (by simp only []; omega)
  rw [e1, e2, add_assoc]

end Cert.AttnIdeal.Tile

end
-- ==== Proof.AttnFirst.lean ====
/- The masks of a tile's first block and what the first tile of a sequence carries. -/
module

public import proofs.«01_k».proof.Proof.AttnRunA
public import proofs.«01_k».proof.Proof.AttnRunB
public import proofs.«01_k».proof.Proof.AttnTileOut
public import Idealize.ShloMosaic.Lib.WholeRead

@[expose] public section

set_option maxRecDepth 16384

noncomputable section

open Idealize.ShloMosaic.WordCmp
open Idealize.ShloMosaic Idealize.ShloMosaic.TcCoe Idealize.SL.Sem

namespace Cert.AttnIdeal.Tile

open Cert.AttnIdeal Cert.AttnIdeal.Gen Cert.AttnRow

/-- The first tile's condition is a word. -/
theorem first_word : ∀ b : BitVec 1, Scalar.cmpi CmpIPredicate.ne (Scalar.extui b) 0#32 = 1#1 ↔ b = 1#1 := by decide

/-- The first block's mask of a sequence: the band without the keys before the sequence. -/
theorem firstBand_at (n : Fin 256) (r : Fin 128) :
    kernelRun0_A.sl.v263 (F := Ideal) (ix2 n r) = if r.val < n.val ∧ n.val ≤ r.val + 128 ∧ 128 ≤ n.val then 0 else ⊥ := by
  have hn : (BitVec.ofNat 32 n.val).toInt = (n.val : ℤ) := toInt_small (by omega)
  have hr : (BitVec.ofNat 32 r.val).toInt = (r.val : ℤ) := toInt_small (by omega)
  have h128 : (128#32).toInt = (128 : ℤ) := by decide
  have e1 : IntOp.cmpi CmpIPredicate.sgt (BitVec.ofNat 32 n.val) (BitVec.ofNat 32 r.val) = if r.val < n.val then 1#1 else 0#1 := by
    rw [cmpi_sgt_eq, hn, hr]
    by_cases h : r.val < n.val <;> simp [h]
  have e2 : IntOp.cmpi CmpIPredicate.sle (BitVec.ofNat 32 n.val) (IntOp.addi (BitVec.ofNat 32 r.val) 128#32) = if n.val ≤ r.val + 128 then 1#1 else 0#1 := by
    rw [cmpi_sle_eq, hn, toInt_addw hr h128 (by omega) (by omega)]
    by_cases h : n.val ≤ r.val + 128
    · rw [if_pos h, decide_eq_true (by omega)]; rfl
    · rw [if_neg h, decide_eq_false (by omega)]; rfl
  have e3 : IntOp.cmpi CmpIPredicate.sge (BitVec.ofNat 32 n.val) 128#32 = if 128 ≤ n.val then 1#1 else 0#1 := by
    rw [cmpi_sge_eq, hn, h128]
    by_cases h : 128 ≤ n.val
    · rw [if_pos h, decide_eq_true (by omega)]; rfl
    · rw [if_neg h, decide_eq_false (by omega)]; rfl
  have hb : kernelRun0_A.sl.v263 (F := Ideal) = k0_pay60 0#32 := rfl
  rw [hb]
  pointwise [k0_pay60, k0_pay56]
  rw [e1, e2, e3, bot_eq]
  by_cases h1 : r.val < n.val <;> by_cases h2 : n.val ≤ r.val + 128 <;> by_cases h3 : 128 ≤ n.val <;>
    simp only [h1, h2, h3, if_true, if_false, and_true, and_false, and_self] <;> rfl

/-- The mask the first tile of a sequence starts with. -/
theorem mask_first (i : grid0.Coords) (h : cond0_0 i) : kernelRun0_A.sl.v275 (F := Ideal) i = kernelRun0_A.sl.v263 := by
  have hv : kernelRun0_A.sl.v0 i = 1#1 := (first_word _).mp h
  rw [kernelRun0_A.sl.v275, hv]
  rfl

/-- The mask another tile starts with. -/
theorem mask_next (i : grid0.Coords) (h : ¬cond0_0 i) : kernelRun0_B.sl.v275 (F := Ideal) i = band := by
  have hv : kernelRun0_B.sl.v0 i = 0#1 := by
    have h1 : kernelRun0_B.sl.v0 i ≠ 1#1 := fun h' => h ((first_word _).mpr h')
    generalize kernelRun0_B.sl.v0 i = b at h1 ⊢
    revert b
    decide
  rw [kernelRun0_B.sl.v275, hv]
  rfl

/-- The first tile carries no keys. -/
theorem keys_first (a : Fin 4) (r l : Fin 128) : kernelRun0_A.sl.v4389 (F := Ideal) (ix3 a r l) = 0 := by
  pointwise [kernelRun0_A.sl.v4389, kernelRun0_A.sl.v4386, kernelRun0_A.sl.cst_1815]

/-- The first tile carries no values. -/
theorem values_first (kv : Fin 2) (e : Fin 64) (r : Fin 128) : kernelRun0_A.sl.v4393 (F := Ideal) (ix4 kv 0 e r) = 0 := by
  pointwise [kernelRun0_A.sl.v4393, kernelRun0_A.sl.v4390, kernelRun0_A.sl.cst_1815]

variable (c : Dev nD) (arg15 : Memref sig .tc .vmem S4x1152x128 .bf16) (harg15 : arg15.IsWhole)
  (arg16 : Memref sig .tc .vmem S2x9x64x128 .bf16) (harg16 : arg16.IsWhole)
  (xs1 : Vec Ideal S4x1152x128 .bf16) (xs2 : Vec Ideal S2x9x64x128 .bf16)

/-- Another tile carries the last 128 keys of the one before. -/
theorem keys_next (a : Fin 4) (r l : Fin 128) :
    kernelRun0_B.sl.v4389 (F := Ideal) c arg15 harg15 xs1 (ix3 a r l) = xs1 (ix3 a ⟨1024 + r.val, by omega⟩ l) := by
  pointwise [kernelRun0_B.sl.v4389]
  refine (Memref.IsWhole.readAt_unread _ _ _ _).trans (congrArg xs1 ?_)
  funext q
  refine Fin.ext ?_
  match q with
  | ⟨0, _⟩ => show 0 + 1 * a.val = a.val; omega
  | ⟨1, _⟩ => show 1024 + 1 * r.val = 1024 + r.val; omega
  | ⟨2, _⟩ => show 0 + 1 * l.val = l.val; omega

/-- And the last block of values. -/
theorem values_next (kv : Fin 2) (e : Fin 64) (r : Fin 128) :
    kernelRun0_B.sl.v4394 (F := Ideal) c arg16 harg16 xs2 (ix4 kv 0 e r) = xs2 (ix4 kv 8 e r) := by
  pointwise [kernelRun0_B.sl.v4394, kernelRun0_B.sl.v4391]
  refine (Memref.IsWhole.readAt_unread _ _ _ _).trans (congrArg xs2 ?_)
  funext q
  refine Fin.ext ?_
  match q with
  | ⟨0, _⟩ => show 0 + 1 * kv.val = kv.val; omega
  | ⟨1, _⟩ => rfl
  | ⟨2, _⟩ => show 0 + 1 * e.val = e.val; omega
  | ⟨3, _⟩ => show 0 + 1 * r.val = r.val; omega

end Cert.AttnIdeal.Tile

end
-- ==== Proof.AttnBlocks.lean ====
/- The blocks a tile of the attention kernel takes of the arrays. -/
module

public import proofs.«01_k».proof.Proof.AttnLoads
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.AttnIdeal.Array

open Cert.AttnIdeal Cert.AttnIdeal.Gen Cert.AttnIdeal.Tile

variable (m : (ℓ : Loc nD τ sig) → Buf (Elt Ideal) ℓ) (c : Dev nD) (t : Fin cfg0.N)

/-- Point `t` takes tile `t % 4` of sequence `t / 4`; the weights at every point. -/
theorem idx : ∀ t : Fin cfg0.N, win0_0.index t = ![0] ∧ win0_1.index t = ![t.val / 4, t.val % 4, 0] ∧ win0_2.index t = ![0, 0]
    ∧ win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![t.val / 4, t.val % 4, 0] ∧ t.val < 32 :=
  (by decide +kernel : ∀ t : Fin grid0.N, _)

/-- There are thirty-two points. -/
theorem lt32 : t.val < 32 := (idx t).2.2.2.2.2.2.2.2.2.2.2.2

/-- The sinks. -/
theorem blk0 (h : Fin 16) : iblk m c 0 t (ix1 h : S16.Idx) = (m ((c : Thread nD τ).loc main_arg6) : _) (ix2 0 h) := by
  have ht := lt32 t
  blk_simp [iblk]
  entry_read
  pointwise []
  blk_ext [idx t]

/-- The rows. -/
theorem blk1 (ρ k : Fin 1024) : iblk m c 1 t (ix3 0 ρ k : S1x1024x1024.Idx) = (m ((c : Thread nD τ).loc main_arg0) : _) (ix3 ⟨t.val / 4, by have := lt32 t; omega⟩ ⟨1024 * (t.val % 4) + ρ.val, by omega⟩ k) := by
  have ht := lt32 t
  blk_simp [iblk]
  entry_read
  pointwise []
  blk_ext [idx t]

/-- The norm's scale. -/
theorem blk2 (k : Fin 1024) : iblk m c 2 t (ix2 0 k : S1x1024.Idx) = (m ((c : Thread nD τ).loc main_arg1) : _) (ix2 1 k) := by
  have ht := lt32 t
  blk_simp [iblk]
  entry_read
  pointwise []
  blk_ext [idx t]

/-- The queries' weights. -/
theorem blk3 (k j : Fin 1024) : iblk m c 3 t (ix2 k j : S1024x1024.Idx) = (m ((c : Thread nD τ).loc main_arg2) : _) (ix3 0 k ⟨j.val, by omega⟩) := by
  have ht := lt32 t
  blk_simp [iblk]
  entry_read
  pointwise []
  blk_ext [idx t]

/-- The queries' bias. -/
theorem blk4 (j : Fin 1024) : iblk m c 4 t (ix2 0 j : S1x1024.Idx) = (m ((c : Thread nD τ).loc main_arg3) : _) (ix2 0 ⟨j.val, by omega⟩) := by
  have ht := lt32 t
  blk_simp [iblk]
  entry_read
  pointwise []
  blk_ext [idx t]

/-- The keys' weights. -/
theorem blk5 (k : Fin 1024) (j : Fin 128) : iblk m c 5 t (ix2 k j : S1024x128.Idx) = (m ((c : Thread nD τ).loc main_arg2) : _) (ix3 0 k ⟨1024 + j.val, by omega⟩) := by
  have ht := lt32 t
  blk_simp [iblk]
  entry_read
  pointwise []
  blk_ext [idx t]

/-- The keys' bias. -/
theorem blk6 (j : Fin 128) : iblk m c 6 t (ix2 0 j : S1x128.Idx) = (m ((c : Thread nD τ).loc main_arg3) : _) (ix2 0 ⟨1024 + j.val, by omega⟩) := by
  have ht := lt32 t
  blk_simp [iblk]
  entry_read
  pointwise []
  blk_ext [idx t]

/-- The values' weights. -/
theorem blk7 (j : Fin 128) (k : Fin 1024) : iblk m c 7 t (ix2 j k : S128x1024.Idx) = (m ((c : Thread nD τ).loc main_arg2) : _) (ix3 0 k ⟨1152 + j.val, by omega⟩) := by
  have ht := lt32 t
  blk_simp [iblk]
  entry_read
  pointwise []
  blk_ext [idx t]

/-- The values' bias. -/
theorem blk8 (j r : Fin 128) : iblk m c 8 t (ix2 j r : S128x128.Idx) = (m ((c : Thread nD τ).loc main_arg3) : _) (ix2 0 ⟨1152 + j.val, by omega⟩) := by
  have ht := lt32 t
  blk_simp [iblk]
  entry_read
  pointwise []
  blk_ext [idx t]

/-- The output's weights. -/
theorem blk9 (k j : Fin 1024) : iblk m c 9 t (ix2 k j : S1024x1024.Idx) = (m ((c : Thread nD τ).loc main_arg4) : _) (ix3 0 k j) := by
  have ht := lt32 t
  blk_simp [iblk]
  entry_read
  pointwise []
  blk_ext [idx t]

/-- The output's bias. -/
theorem blk10 (j : Fin 1024) : iblk m c 10 t (ix2 0 j : S1x1024.Idx) = (m ((c : Thread nD τ).loc main_arg5) : _) (ix2 0 j) := by
  have ht := lt32 t
  blk_simp [iblk]
  entry_read
  pointwise []
  blk_ext [idx t]

end Cert.AttnIdeal.Array

end
-- ==== Proof.AttnRefKeys.lean ====
/- The queries, keys, values and plain scores of the attention reference. -/
module

public import proofs.«01_k».proof.Proof.Gen.AttnRefIdeal.Read
public import proofs.«01_k».proof.Proof.AttnSoft
public import proofs.«01_k».proof.Proof.AttnWord
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.AttnRefIdeal.Row

open Cert.AttnRefIdeal Cert.AttnRefIdeal.Gen Cert.AttnRefIdeal.Read Cert.MlpRow Cert.AttnRow

variable (x : FVec Ideal S8x4096x1024 .f32) (g : FVec Ideal S2x1024 .f32) (w : FVec Ideal S1x1024x1280 .f32)
  (b : FVec Ideal S1x1280 .f32) (wo : FVec Ideal S1x1024x1024 .f32) (bo : FVec Ideal S1x1024 .f32) (z : FVec Ideal S1x16 .f32)

/-- The normalised rows of batch `n`. -/
abbrev rows (n : Fin 8) (s : Fin 4096) (k : Fin 1024) : EReal := normed (fun k => x (ix3 n s k)) (fun k => g (ix2 1 k)) k

/-- The projection's weights. -/
abbrev wt (k : Fin 1024) (c : Fin 1280) : EReal := w (ix3 0 k c)

/-- The projection's bias. -/
abbrev bs (c : Fin 1280) : EReal := b (ix2 0 c)

/-- The sinks. -/
abbrev zs (kv : Fin 2) (a : Fin 8) : EReal := z (ix2 0 ⟨8 * kv.val + a.val, by omega⟩)

/-- Entries at equal places. -/
theorem at3 {n0 n1 n2 : ℕ} {α : Type} (v : (⟨3, ![n0, n1, n2]⟩ : Shape).Idx → α) {a a' : Fin n0} {b b' : Fin n1} {c c' : Fin n2}
    (ha : a.val = a'.val) (hb : b.val = b'.val) (hc : c.val = c'.val) : v (ix3 a b c) = v (ix3 a' b' c') := by
  rw [Fin.ext ha, Fin.ext hb, Fin.ext hc]

/-- Entries at equal places. -/
theorem at4 {n0 n1 n2 n3 : ℕ} {α : Type} (v : (⟨4, ![n0, n1, n2, n3]⟩ : Shape).Idx → α) {a a' : Fin n0} {b b' : Fin n1} {c c' : Fin n2} {d d' : Fin n3}
    (ha : a.val = a'.val) (hb : b.val = b'.val) (hc : c.val = c'.val) (hd : d.val = d'.val) : v (ix4 a b c d) = v (ix4 a' b' c' d') := by
  rw [Fin.ext ha, Fin.ext hb, Fin.ext hc, Fin.ext hd]

/-- Zero as a float. -/
theorem sitofp_zero : FloatOps.sitofp (F := Ideal) .f32 (0#32) = 0 := by
  show (((0#32).toInt : ℝ) : EReal) = 0
  simp

/-- The normalised rows. -/
theorem rows_at (n : Fin 8) (s : Fin 4096) (k : Fin 1024) : val_main_v14 (F := Ideal) x g (ix3 n s k) = rows x g n s k := by
  pointwise [val_main_v14, val_main_v13, val_main_v12, val_main_v11, val_main_v10, val_main_v9, val_main_v8,
    val_main_v7, val_main_v6, val_main_v5, val_main_v4, val_main_v3, val_main_v2, val_main_v1, val_main_v0,
    val_main_cst, val_main_cst_0, val_main_cst_1, normed, scale]

/-- The projection. -/
theorem proj_at (n : Fin 8) (s : Fin 4096) (c : Fin 1280) :
    val_main_v20 (F := Ideal) x g w b (ix3 n s c) = proj (rows x g n) (wt w) (bs b) s c := by
  pointwise [val_main_v20, val_main_v19, val_main_v18, val_main_v17, val_main_v16, val_main_v15, rows_at, proj]

/-- The queries by block. -/
theorem qry_at (n : Fin 8) (i : Fin 32) (r : Fin 128) (kv : Fin 2) (a : Fin 8) (e : Fin 64) :
    val_main_v28 (F := Ideal) x g w b (ix6 n i r kv a e) = qry (rows x g n) (wt w) (bs b) ⟨128 * i.val + r.val, by omega⟩ kv a e := by
  rw [qry, ← proj_at]
  pointwise [val_main_v28, val_main_v24, val_main_v21]
  refine at3 _ rfl ?_ ?_ <;> simp only [] <;> omega

/-- The padded keys. -/
theorem key_at (n : Fin 8) (t : Fin 4224) (kv : Fin 2) (e : Fin 64) :
    val_main_v29 (F := Ideal) x g w b (ix4 n t kv e) = key (rows x g n) (wt w) (bs b) t kv e := by
  rw [key]
  simp only [← proj_at]
  pointwise [val_main_v29, val_main_v25, val_main_v22, val_main_call0_v0, val_main_c]
  by_cases h : t.val < 128
  · rw [dif_neg (by omega), dif_pos h, sitofp_zero]
  · rw [dif_pos (by omega), dif_neg h]
    refine at3 _ rfl rfl ?_
    simp only []
    omega

/-- The padded values. -/
theorem value_at (n : Fin 8) (t : Fin 4224) (kv : Fin 2) (e : Fin 64) :
    val_main_v31 (F := Ideal) x g w b (ix4 n t kv e) = value (rows x g n) (wt w) (bs b) t kv e := by
  rw [value]
  simp only [← proj_at]
  pointwise [val_main_v31, val_main_v26, val_main_v23, val_main_call1_v0, val_main_c_2]
  by_cases h : t.val < 128
  · rw [dif_neg (by omega), dif_pos h, sitofp_zero]
  · rw [dif_pos (by omega), dif_neg h]
    refine at3 _ rfl rfl ?_
    simp only []
    omega

/-- The keys of a block's band. -/
theorem band_key_at (n : Fin 8) (i : Fin 32) (m : Fin 256) (kv : Fin 2) (e : Fin 64) :
    val_main_v35 (F := Ideal) x g w b (ix5 n i m kv e) = key (rows x g n) (wt w) (bs b) ⟨128 * i.val + m.val, by omega⟩ kv e := by
  rw [← key_at]
  pointwise [val_main_v35, val_main_v34, val_main_v33, val_main_v30]
  split <;> refine at4 _ rfl ?_ rfl rfl <;> simp only [] <;> omega

/-- The values of a block's band. -/
theorem band_value_at (n : Fin 8) (i : Fin 32) (m : Fin 256) (kv : Fin 2) (e : Fin 64) :
    val_main_v38 (F := Ideal) x g w b (ix5 n i m kv e) = value (rows x g n) (wt w) (bs b) ⟨128 * i.val + m.val, by omega⟩ kv e := by
  rw [← value_at]
  pointwise [val_main_v38, val_main_v37, val_main_v36, val_main_v32]
  split <;> refine at4 _ rfl ?_ rfl rfl <;> simp only [] <;> omega

/-- The scores before the mask. -/
theorem dotted_at (n : Fin 8) (i : Fin 32) (r : Fin 128) (kv : Fin 2) (a : Fin 8) (m : Fin 256) :
    val_main_v42 (F := Ideal) x g w b (ix6 n i kv a r m) = dotted (rows x g n) (wt w) (bs b) i r kv a m * ((1 / 8 : ℝ) : EReal) := by
  rw [← eighth_eq, dotted]
  simp only [← qry_at, ← band_key_at]
  pointwise [val_main_v42, val_main_v41, val_main_cst_3, val_main_v40, val_main_v39]

end Cert.AttnRefIdeal.Row

end
-- ==== Proof.AttnHolds.lean ====
/- The loads of a tile are rows and weights of the arrays. -/
module

public import proofs.«01_k».proof.Proof.AttnBlocks
public import proofs.«01_k».proof.Proof.AttnTileOut
public import proofs.«01_k».proof.Proof.AttnRefKeys
public import Idealize.ShloMosaic.Lib.WholeRead

@[expose] public section

set_option maxRecDepth 16384

noncomputable section

open Idealize.ShloMosaic Idealize.ShloMosaic.TcCoe Idealize.SL.Sem

namespace Cert.AttnIdeal.Array

open Cert.AttnIdeal Cert.AttnIdeal.Gen Cert.AttnIdeal.Tile Cert.AttnRow
open Cert.AttnRefIdeal.Row (rows wt bs zs)

variable (m : (ℓ : Loc nD τ sig) → Buf (Elt Ideal) ℓ) (c : Dev nD) (t : Fin cfg0.N)
variable (kc : Vec Ideal S4x128x128 .bf16) (vc : Vec Ideal S2x1x64x128 .bf16) (b0 : FVec Ideal S256x128 .f32)

/-- The loads of point `t`. -/
abbrev tile : In := loads (ms0_0 t) (hs0_0 t) (ms0_1 t) (hs0_1 t) (ms0_2 t) (hs0_2 t) (ms0_3 t) (hs0_3 t) (ms0_4 t) (hs0_4 t) (ms0_5 t) (hs0_5 t)
  (ms0_6 t) (hs0_6 t) (ms0_7 t) (hs0_7 t) (ms0_8 t) (hs0_8 t) (ms0_9 t) (hs0_9 t) (ms0_10 t) (hs0_10 t)
  (iblk m c 0 t) (iblk m c 1 t) (iblk m c 2 t) (iblk m c 3 t) (iblk m c 4 t) (iblk m c 5 t) (iblk m c 6 t) (iblk m c 7 t) (iblk m c 8 t)
  (iblk m c 9 t) (iblk m c 10 t) kc vc b0

/-- The rows of the arguments. -/
abbrev X : Vec Ideal S8x4096x1024 .f32 := m ((c : Thread nD τ).loc main_arg0)
/-- The norm's scales. -/
abbrev G : Vec Ideal S2x1024 .f32 := m ((c : Thread nD τ).loc main_arg1)
/-- The projection's weights. -/
abbrev W : Vec Ideal S1x1024x1280 .f32 := m ((c : Thread nD τ).loc main_arg2)
/-- The projection's bias. -/
abbrev B : Vec Ideal S1x1280 .f32 := m ((c : Thread nD τ).loc main_arg3)
/-- The output's weights. -/
abbrev Wo : Vec Ideal S1x1024x1024 .f32 := m ((c : Thread nD τ).loc main_arg4)
/-- The output's bias. -/
abbrev Bo : Vec Ideal S1x1024 .f32 := m ((c : Thread nD τ).loc main_arg5)
/-- The sinks. -/
abbrev Z : Vec Ideal S1x16 .f32 := m ((c : Thread nD τ).loc main_arg6)

/-- The sequence of a point. -/
abbrev seq : Fin 8 := ⟨t.val / 4, by have := lt32 t; omega⟩

/-- The tile of a point in its sequence. -/
abbrev part : Fin 4 := ⟨t.val % 4, by omega⟩

/-- The rows loaded for the norm. -/
theorem tile_x (p : Fin 4) (r : Fin 256) (k : Fin 1024) :
    (tile m c t kc vc b0).x p (ix3 0 r k) = X m c (ix3 (seq t) ⟨1024 * (t.val % 4) + (256 * p.val + r.val), by omega⟩ k) := by
  refine (Memref.IsWhole.readAt_unread _ _ _ _).trans ((congrArg (iblk m c 1 t) ?_).trans (blk1 m c t ⟨256 * p.val + r.val, by omega⟩ k))
  funext q
  refine Fin.ext ?_
  match q with
  | ⟨0, _⟩ => rfl
  | ⟨1, _⟩ => show 256 * p.val + 1 * r.val = 256 * p.val + r.val; omega
  | ⟨2, _⟩ => show 0 + 1 * k.val = k.val; omega

/-- The rows loaded for the output. -/
theorem tile_xo (p n : Fin 4) (r j : Fin 256) :
    (tile m c t kc vc b0).xo p n (ix3 0 r j) = X m c (ix3 (seq t) ⟨1024 * (t.val % 4) + (256 * p.val + r.val), by omega⟩ ⟨256 * n.val + j.val, by omega⟩) := by
  refine (Memref.IsWhole.readAt_unread _ _ _ _).trans ((congrArg (iblk m c 1 t) ?_).trans (blk1 m c t ⟨256 * p.val + r.val, by omega⟩ ⟨256 * n.val + j.val, by omega⟩))
  funext q
  refine Fin.ext ?_
  match q with
  | ⟨0, _⟩ => rfl
  | ⟨1, _⟩ => show 256 * p.val + 1 * r.val = 256 * p.val + r.val; omega
  | ⟨2, _⟩ => show 256 * n.val + 1 * j.val = 256 * n.val + j.val; omega

/-- A place of a two-dimensional load. -/
theorem place2 {n0 n1 : ℕ} (i : (⟨2, ![n0, n1]⟩ : Shape).Idx) (a : Fin n0) (b : Fin n1) (h0 : (i 0).val = a.val) (h1 : (i 1).val = b.val) : i = ix2 a b := by
  refine (eq_ix2 i).trans (congr (congrArg ix2 (Fin.ext h0)) (Fin.ext h1))

/-- The norm's scale loaded. -/
theorem tile_g (k : Fin 1024) : (tile m c t kc vc b0).g (ix2 0 k) = G m c (ix2 1 k) :=
  (Memref.IsWhole.readAt_unread _ _ _ _).trans ((congrArg (iblk m c 2 t)
    (place2 _ 0 k rfl (by show 0 + 1 * k.val = k.val; omega))).trans (blk2 m c t k))

/-- The weights and bias of the output loaded. -/
theorem tile_wo (n : Fin 4) (k : Fin 1024) (j : Fin 256) : (tile m c t kc vc b0).wo n (ix2 k j) = Wo m c (ix3 0 k ⟨256 * n.val + j.val, by omega⟩) :=
  (Memref.IsWhole.readAt_unread _ _ _ _).trans ((congrArg (iblk m c 9 t)
    (place2 _ k ⟨256 * n.val + j.val, by omega⟩ (by show 0 + 1 * k.val = k.val; omega) (by show 256 * n.val + 1 * j.val = _; simp))).trans (blk9 m c t k _))

/-- The output bias, from the array. -/
theorem tile_bo (n : Fin 4) (j : Fin 256) : (tile m c t kc vc b0).bo n (ix2 0 j) = Bo m c (ix2 0 ⟨256 * n.val + j.val, by omega⟩) :=
  (Memref.IsWhole.readAt_unread _ _ _ _).trans ((congrArg (iblk m c 10 t)
    (place2 _ 0 ⟨256 * n.val + j.val, by omega⟩ rfl (by show 256 * n.val + 1 * j.val = _; simp))).trans (blk10 m c t _))

/-- The sinks loaded. -/
theorem tile_sink (kv : Fin 2) (a : Fin 8) : (tile m c t kc vc b0).sink ⟨8 * kv.val + a.val, by omega⟩ = zs (Z m c) kv a := by
  refine (Memref.IsWhole.readAt_unread _ _ _ _).trans ((congrArg (iblk m c 0 t) ?_).trans (blk0 m c t ⟨8 * kv.val + a.val, by omega⟩))
  funext q
  refine Fin.ext ?_
  match q with
  | ⟨0, _⟩ => rfl

/-- Point `t` takes rows of its sequence. -/
theorem holds : Holds (tile m c t kc vc b0) (part t) (rows (X m c) (G m c) (seq t)) (wt (W m c)) (bs (B m c)) where
  y p r k := by
    rw [In.y, norm_at]
    simp only [tile_g]
    have hx (k) : (tile m c t kc vc b0).x p (ix3 0 r k) = X m c (ix3 (seq t) ⟨1024 * (t.val % 4) + 256 * p.val + r.val, by omega⟩ k) :=
      (tile_x m c t kc vc b0 p r k).trans (congrArg (fun s => X m c (ix3 (seq t) s k)) (Fin.ext (by simp only []; omega)))
    simp only [hx]
  wq n k j := (Memref.IsWhole.readAt_unread _ _ _ _).trans ((congrArg (iblk m c 3 t)
    (place2 _ k ⟨256 * n.val + j.val, by omega⟩ (by show 0 + 1 * k.val = k.val; omega) (by show 256 * n.val + 1 * j.val = _; simp))).trans (blk3 m c t k _))
  bq n j := (Memref.IsWhole.readAt_unread _ _ _ _).trans ((congrArg (iblk m c 4 t)
    (place2 _ 0 ⟨256 * n.val + j.val, by omega⟩ rfl (by show 256 * n.val + 1 * j.val = _; simp))).trans (blk4 m c t _))
  wk k j := (Memref.IsWhole.readAt_unread _ _ _ _).trans ((congrArg (iblk m c 5 t)
    (place2 _ k j (by show 0 + 1 * k.val = k.val; omega) (by show 0 + 1 * j.val = _; omega))).trans (blk5 m c t k j))
  bk j := (Memref.IsWhole.readAt_unread _ _ _ _).trans ((congrArg (iblk m c 6 t)
    (place2 _ 0 j rfl (by show 0 + 1 * j.val = _; omega))).trans (blk6 m c t j))
  wv k j := (Memref.IsWhole.readAt_unread _ _ _ _).trans ((congrArg (iblk m c 7 t)
    (place2 _ j k (by show 0 + 1 * j.val = _; omega) (by show 0 + 1 * k.val = k.val; omega))).trans (blk7 m c t j k))
  bv j r := (Memref.IsWhole.readAt_unread _ _ _ _).trans ((congrArg (iblk m c 8 t)
    (place2 _ j r (by show 0 + 1 * j.val = _; omega) (by show 0 + 1 * r.val = _; omega))).trans (blk8 m c t j r))

end Cert.AttnIdeal.Array

end
-- ==== Proof.AttnEndA.lean ====
/- What a tile that starts a sequence leaves. -/
module

public import proofs.«01_k».proof.Proof.AttnRunA
public import proofs.«01_k».proof.Proof.AttnOut

@[expose] public section

set_option maxRecDepth 16384

noncomputable section

open Idealize.ShloMosaic Idealize.ShloMosaic.TcCoe Idealize.SL.Sem

namespace Cert.AttnIdeal.Tile.A

open Cert.AttnIdeal Cert.AttnIdeal.Gen

variable (arg14 : Memref sig .tc .vmem S8x1024x128 .bf16) (arg15 : Memref sig .tc .vmem S4x1152x128 .bf16)
  (arg16 : Memref sig .tc .vmem S2x9x64x128 .bf16) (arg17 : Memref sig .tc .vmem S1024x1024 .bf16)
variable (c : Dev nD) (i : grid0.Coords) (arg2 : Memref sig .tc .smem S16 .f32) (harg2 : arg2.IsWhole) (arg3 : Memref sig .tc .vmem S1x1024x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x128 .bf16) (harg7 : arg7.IsWhole) (arg8 : Memref sig .tc .vmem S1x128 .f32) (harg8 : arg8.IsWhole) (arg9 : Memref sig .tc .vmem S128x1024 .bf16) (harg9 : arg9.IsWhole) (arg10 : Memref sig .tc .vmem S128x128 .f32) (harg10 : arg10.IsWhole) (arg11 : Memref sig .tc .vmem S1024x1024 .bf16) (harg11 : arg11.IsWhole) (arg12 : Memref sig .tc .vmem S1x1024 .f32) (harg12 : arg12.IsWhole)
  (x0 : Vec Ideal S16 .f32) (x1 : Vec Ideal S1x1024x1024 .f32) (x2 : Vec Ideal S1x1024 .f32) (x3 : Vec Ideal S1024x1024 .bf16) (x4 : Vec Ideal S1x1024 .f32) (x5 : Vec Ideal S1024x128 .bf16) (x6 : Vec Ideal S1x128 .f32) (x7 : Vec Ideal S128x1024 .bf16) (x8 : Vec Ideal S128x128 .f32) (x9 : Vec Ideal S1024x1024 .bf16) (x10 : Vec Ideal S1x1024 .f32)
variable (arg13 : Memref sig .tc .vmem S1x1024x1024 .f32) (harg13 : arg13.IsWhole) (harg14 : arg14.IsWhole) (harg15 : arg15.IsWhole) (harg16 : arg16.IsWhole) (harg17 : arg17.IsWhole)
  (hc0 : cond0_0 i) (hc1 : ¬cond0_1 i)

/-- Its output. -/
theorem out_left : out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 = oG (ins i arg2 harg2 arg3 harg3 arg4 harg4 arg5 harg5 arg6 harg6 arg7 harg7 arg8 harg8 arg9 harg9 arg10 harg10 arg11 harg11 arg12 harg12 x0 x1 x2 x3 x4 x5 x6 x7 x8 x9 x10) := by
  funext y
  rw [out0_A_11, View.read_writes_junk_eq_canon, out_eq, attn_eq]
  exact out_canon _ _ _ _ _ y

/-- Its keys. -/
theorem keys_left : sout0_A_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 = kG (ins i arg2 harg2 arg3 harg3 arg4 harg4 arg5 harg5 arg6 harg6 arg7 harg7 arg8 harg8 arg9 harg9 arg10 harg10 arg11 harg11 arg12 harg12 x0 x1 x2 x3 x4 x5 x6 x7 x8 x9 x10) := by
  funext y
  rw [sout0_A_1, View.read_writes_junk_eq_canon, keys_eq]
  exact keys_canon _ y

/-- Its values. -/
theorem values_left : sout0_A_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 = vG (ins i arg2 harg2 arg3 harg3 arg4 harg4 arg5 harg5 arg6 harg6 arg7 harg7 arg8 harg8 arg9 harg9 arg10 harg10 arg11 harg11 arg12 harg12 x0 x1 x2 x3 x4 x5 x6 x7 x8 x9 x10) := by
  funext y
  rw [sout0_A_2, View.read_writes_junk_eq_canon, values_eq]
  exact values_canon _ y

end Cert.AttnIdeal.Tile.A

end
-- ==== Proof.AttnEndB.lean ====
/- What a tile that continues a sequence leaves. -/
module

public import proofs.«01_k».proof.Proof.AttnRunB
public import proofs.«01_k».proof.Proof.AttnOut

@[expose] public section

set_option maxRecDepth 16384

noncomputable section

open Idealize.ShloMosaic Idealize.ShloMosaic.TcCoe Idealize.SL.Sem

namespace Cert.AttnIdeal.Tile.B

open Cert.AttnIdeal Cert.AttnIdeal.Gen

variable (arg14 : Memref sig .tc .vmem S8x1024x128 .bf16) (arg15 : Memref sig .tc .vmem S4x1152x128 .bf16)
  (arg16 : Memref sig .tc .vmem S2x9x64x128 .bf16) (arg17 : Memref sig .tc .vmem S1024x1024 .bf16)
variable (c : Dev nD) (i : grid0.Coords) (arg2 : Memref sig .tc .smem S16 .f32) (harg2 : arg2.IsWhole) (arg3 : Memref sig .tc .vmem S1x1024x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x128 .bf16) (harg7 : arg7.IsWhole) (arg8 : Memref sig .tc .vmem S1x128 .f32) (harg8 : arg8.IsWhole) (arg9 : Memref sig .tc .vmem S128x1024 .bf16) (harg9 : arg9.IsWhole) (arg10 : Memref sig .tc .vmem S128x128 .f32) (harg10 : arg10.IsWhole) (arg11 : Memref sig .tc .vmem S1024x1024 .bf16) (harg11 : arg11.IsWhole) (arg12 : Memref sig .tc .vmem S1x1024 .f32) (harg12 : arg12.IsWhole)
  (x0 : Vec Ideal S16 .f32) (x1 : Vec Ideal S1x1024x1024 .f32) (x2 : Vec Ideal S1x1024 .f32) (x3 : Vec Ideal S1024x1024 .bf16) (x4 : Vec Ideal S1x1024 .f32) (x5 : Vec Ideal S1024x128 .bf16) (x6 : Vec Ideal S1x128 .f32) (x7 : Vec Ideal S128x1024 .bf16) (x8 : Vec Ideal S128x128 .f32) (x9 : Vec Ideal S1024x1024 .bf16) (x10 : Vec Ideal S1x1024 .f32)
variable (xs1 : Vec Ideal S4x1152x128 .bf16) (xs2 : Vec Ideal S2x9x64x128 .bf16)
variable (harg15 : arg15.IsWhole) (harg16 : arg16.IsWhole)
variable (arg13 : Memref sig .tc .vmem S1x1024x1024 .f32) (harg13 : arg13.IsWhole) (harg14 : arg14.IsWhole) (harg17 : arg17.IsWhole)
  (hc0 : ¬cond0_0 i) (hc1 : cond0_1 i)

/-- Its output. -/
theorem out_left : out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 xs1 xs2 = oG (ins arg15 arg16 c i arg2 harg2 arg3 harg3 arg4 harg4 arg5 harg5 arg6 harg6 arg7 harg7 arg8 harg8 arg9 harg9 arg10 harg10 arg11 harg11 arg12 harg12 x0 x1 x2 x3 x4 x5 x6 x7 x8 x9 x10 xs1 xs2 harg15 harg16) := by
  funext y
  rw [out0_B_11, View.read_writes_junk_eq_canon, out_eq, attn_eq]
  exact out_canon _ _ _ _ _ y

/-- Its keys. -/
theorem keys_left : sout0_B_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 xs1 xs2 = kG (ins arg15 arg16 c i arg2 harg2 arg3 harg3 arg4 harg4 arg5 harg5 arg6 harg6 arg7 harg7 arg8 harg8 arg9 harg9 arg10 harg10 arg11 harg11 arg12 harg12 x0 x1 x2 x3 x4 x5 x6 x7 x8 x9 x10 xs1 xs2 harg15 harg16) := by
  funext y
  rw [sout0_B_1, View.read_writes_junk_eq_canon, keys_eq]
  exact keys_canon _ y

/-- Its values. -/
theorem values_left : sout0_B_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 xs1 xs2 = vG (ins arg15 arg16 c i arg2 harg2 arg3 harg3 arg4 harg4 arg5 harg5 arg6 harg6 arg7 harg7 arg8 harg8 arg9 harg9 arg10 harg10 arg11 harg11 arg12 harg12 x0 x1 x2 x3 x4 x5 x6 x7 x8 x9 x10 xs1 xs2 harg15 harg16) := by
  funext y
  rw [sout0_B_2, View.read_writes_junk_eq_canon, values_eq]
  exact values_canon _ y

end Cert.AttnIdeal.Tile.B

end
-- ==== Proof.AttnLeft.lean ====
/- What every tile of the attention kernel leaves, and that what it carries in is right. -/
module

public import proofs.«01_k».proof.Proof.AttnFirst
public import proofs.«01_k».proof.Proof.AttnHolds
public import proofs.«01_k».proof.Proof.AttnEndA
public import proofs.«01_k».proof.Proof.AttnEndB

@[expose] public section

set_option maxRecDepth 16384

noncomputable section

open Idealize.ShloMosaic Idealize.ShloMosaic.TcCoe Idealize.SL.Sem

namespace Cert.AttnIdeal.Array

open Cert.AttnIdeal Cert.AttnIdeal.Gen Cert.AttnIdeal.Tile Cert.AttnRow
open Cert.AttnRefIdeal.Row (rows wt bs zs)

variable (m : (ℓ : Loc nD τ sig) → Buf (Elt Ideal) ℓ) (c : Dev nD) (t : Fin cfg0.N)

/-- The loads of a point that starts a sequence. -/
abbrev tileA : In := tile m c t (kernelRun0_A.sl.v4389 (F := Ideal)) (kernelRun0_A.sl.v4393 (F := Ideal)) (kernelRun0_A.sl.v275 (F := Ideal) (grid0.coords t))

/-- What the point before left. -/
abbrev before : Vec Ideal S1x1024x1024 .f32 × Vec Ideal S4x1152x128 .bf16 × Vec Ideal S2x9x64x128 .bf16 :=
  outsAt0 m c (t.val - 1) (Nat.lt_of_le_of_lt (Nat.sub_le _ _) t.isLt)

/-- The loads of another point. -/
abbrev tileB : In := tile m c t (kernelRun0_B.sl.v4389 (F := Ideal) c scM0_1 (Memref.isWhole_whole _) (before m c t).2.1)
  (kernelRun0_B.sl.v4394 (F := Ideal) c scM0_2 (Memref.isWhole_whole _) (before m c t).2.2) (kernelRun0_B.sl.v275 (F := Ideal) (grid0.coords t))

/-- What a point that starts a sequence leaves. -/
theorem left_A (h0 : t.val % 4 = 0) : outsAt0 m c t.val t.isLt = (oG (tileA m c t), kG (tileA m c t), vG (tileA m c t)) := by
  rw [outsAt0_A m c t h0 (by omega), A.out_left, A.keys_left, A.values_left]

/-- What another point leaves. -/
theorem left_B (h0 : ¬t.val % 4 = 0) : outsAt0 m c t.val t.isLt = (oG (tileB m c t), kG (tileB m c t), vG (tileB m c t)) := by
  rw [outsAt0_B m c t h0 (by omega), B.out_left, B.keys_left, B.values_left]

/-- The keys a point leaves after the first 128 rows. -/
theorem left_keys (kv d : Fin 2) (ρ : Fin 1152) (hρ : 128 ≤ ρ.val) (l : Fin 128) :
    (outsAt0 m c t.val t.isLt).2.1 (ix3 ⟨2 * kv.val + d.val, by omega⟩ ρ l)
      = if l.val / 64 = d.val then key (rows (X m c) (G m c) (seq t)) (wt (W m c)) (bs (B m c)) ⟨1024 * (t.val % 4) + ρ.val, by omega⟩ kv ⟨l.val % 64, by omega⟩ else 0 := by
  by_cases h0 : t.val % 4 = 0
  · rw [left_A m c t h0]; exact (holds m c t _ _ _).kS_new kv d ρ hρ l
  · rw [left_B m c t h0]; exact (holds m c t _ _ _).kS_new kv d ρ hρ l

/-- The values a point leaves after the first block. -/
theorem left_values (kv : Fin 2) (i : Fin 9) (hi : 1 ≤ i.val) (e : Fin 64) (r : Fin 128) :
    (outsAt0 m c t.val t.isLt).2.2 (ix4 kv i e r)
      = value (rows (X m c) (G m c) (seq t)) (wt (W m c)) (bs (B m c)) ⟨1024 * (t.val % 4) + 128 * i.val + r.val, by omega⟩ kv e := by
  by_cases h0 : t.val % 4 = 0
  · rw [left_A m c t h0]; exact (holds m c t _ _ _).vS_new kv i hi e r
  · rw [left_B m c t h0]; exact (holds m c t _ _ _).vS_new kv i hi e r

/-- A point that starts a sequence carries nothing in. -/
theorem carries_A (h0 : t.val % 4 = 0) :
    Carries (tileA m c t) (part t) (rows (X m c) (G m c) (seq t)) (wt (W m c)) (bs (B m c)) (zs (Z m c)) where
  kc kv d r l := (keys_first ⟨2 * kv.val + d.val, by omega⟩ r l).trans (by rw [key, dif_pos (by simp only [h0]; omega), ite_self])
  vc kv e r := (values_first kv e r).trans (by rw [value, dif_pos (by simp only [h0]; omega)])
  sink kv a := tile_sink m c t _ _ _ kv a
  b0 n r := (congrFun (mask_first _ ((hcond0_0 t).mpr h0)) _).trans ((firstBand_at n r).trans (if_congr (by simp [Seen, h0]) rfl rfl))

/-- Another point carries in what the one before left. -/
theorem carries_B (h0 : ¬t.val % 4 = 0) :
    Carries (tileB m c t) (part t) (rows (X m c) (G m c) (seq t)) (wt (W m c)) (bs (B m c)) (zs (Z m c)) where
  kc kv d r l := by
    refine (keys_next c scM0_1 (Memref.isWhole_whole _) (before m c t).2.1 ⟨2 * kv.val + d.val, by omega⟩ r l).trans ((left_keys m c ⟨t.val - 1, by omega⟩ kv d ⟨1024 + r.val, by omega⟩ (by simp only []; omega) l).trans ?_)
    have hs : seq ⟨t.val - 1, by omega⟩ = seq t := Fin.ext (by simp only []; omega)
    have hk : (⟨1024 * ((t.val - 1) % 4) + (1024 + r.val), by omega⟩ : Fin 4224) = ⟨1024 * (t.val % 4) + r.val, by omega⟩ := Fin.ext (by simp only []; omega)
    rw [hs, hk]
  vc kv e r := by
    refine (values_next c scM0_2 (Memref.isWhole_whole _) (before m c t).2.2 kv e r).trans ((left_values m c ⟨t.val - 1, by omega⟩ kv 8 (by decide) e r).trans ?_)
    have hs : seq ⟨t.val - 1, by omega⟩ = seq t := Fin.ext (by simp only []; omega)
    have hk : (⟨1024 * ((t.val - 1) % 4) + 128 * (8 : Fin 9).val + r.val, by have : (8 : Fin 9).val = 8 := rfl; omega⟩ : Fin 4224) = ⟨1024 * (t.val % 4) + r.val, by omega⟩ :=
      Fin.ext (by have : (8 : Fin 9).val = 8 := rfl; simp only []; omega)
    rw [hs, hk]
  sink kv a := tile_sink m c t _ _ _ kv a
  b0 n r := (congrFun (mask_next _ fun h => h0 ((hcond0_0 t).mp h)) _).trans ((band_at n r).trans (if_congr (by
    have : 8 * (t.val % 4) ≠ 0 := by omega
    simp only [Seen, ne_eq, this, not_false_eq_true, true_or, and_true]) rfl rfl))

variable (hg : ∀ k, Num (G m c (ix2 1 k))) (hw : ∀ k, ∀ j : Fin 1280, j.val < 1152 → Num (W m c (ix3 0 k j)))
  (hb : ∀ j : Fin 1280, j.val < 1152 → Num (B m c (ix2 0 j))) (hz : ∀ h, Z m c (ix2 0 h) < (⊤ : EReal))

include hg hw hb hz in
/-- The output a point leaves. -/
theorem left_out (ρ k : Fin 1024) : (outsAt0 m c t.val t.isLt).1 (ix3 0 ρ k)
    = X m c (ix3 (seq t) ⟨1024 * (t.val % 4) + ρ.val, by omega⟩ k)
      + ((∑ a, attended (rows (X m c) (G m c) (seq t)) (wt (W m c)) (bs (B m c)) (zs (Z m c)) ⟨1024 * (t.val % 4) + ρ.val, by omega⟩ a * Wo m c (ix3 0 a k)) + Bo m c (ix2 0 k)) := by
  have hx (kc vc b0) (p n : Fin 4) (r j : Fin 256) : (tile m c t kc vc b0).xo p n (ix3 0 r j)
      = X m c (ix3 (seq t) ⟨1024 * (t.val % 4) + 256 * p.val + r.val, by omega⟩ ⟨256 * n.val + j.val, by omega⟩) :=
    (tile_xo m c t kc vc b0 p n r j).trans (congrArg (fun s => X m c (ix3 (seq t) s _)) (Fin.ext (by simp only []; omega)))
  by_cases h0 : t.val % 4 = 0
  · rw [left_A m c t h0]
    exact out_attended (holds m c t _ _ _) (carries_A m c t h0) (fun s k => normed_num _ _ hg k) hw hb (fun _ _ => hz _)
      (fun s k => X m c (ix3 (seq t) s k)) (fun a k => Wo m c (ix3 0 a k)) (fun k => Bo m c (ix2 0 k)) (hx _ _ _) (tile_wo m c t _ _ _) (tile_bo m c t _ _ _) ρ k
  · rw [left_B m c t h0]
    exact out_attended (holds m c t _ _ _) (carries_B m c t h0) (fun s k => normed_num _ _ hg k) hw hb (fun _ _ => hz _)
      (fun s k => X m c (ix3 (seq t) s k)) (fun a k => Wo m c (ix3 0 a k)) (fun k => Bo m c (ix2 0 k)) (hx _ _ _) (tile_wo m c t _ _ _) (tile_bo m c t _ _ _) ρ k

end Cert.AttnIdeal.Array

end
-- ==== Proof.AttnRefMask.lean ====
/- The mask of the attention reference. -/
module

public import proofs.«01_k».proof.Proof.Gen.AttnRefIdeal.Read
public import proofs.«01_k».proof.Proof.AttnSoft
public import proofs.«01_k».proof.Proof.AttnWord
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.AttnRefIdeal.Row

open Cert.AttnRefIdeal Cert.AttnRefIdeal.Gen Cert.AttnRefIdeal.Read Cert.MlpRow Cert.AttnRow

/-- The mask. -/
theorem seen_at (n : Fin 8) (i : Fin 32) (r : Fin 128) (kv : Fin 2) (a : Fin 8) (m : Fin 256) :
    val_main_call2_v1 (F := Ideal) (ix6 n i kv a r m) = if Seen i r m then 1#1 else 0#1 := by
  pointwise [val_main_call2_v1, val_main_v75, val_main_v74, val_main_v73, val_main_v72, val_main_v71, val_main_c_9, val_main_v70, val_main_v69,
    val_main_v68, val_main_c_8, val_main_v67, val_main_v66, val_main_c_7, val_main_v65, val_main_v64, val_main_v63, val_main_v62, val_main_v61,
    val_main_v60, val_main_v59, val_main_v58, val_main_v57, val_main_v56, val_main_c_6, val_main_v55, val_main_v54, val_main_c_5, val_main_v53,
    val_main_v52, val_main_v51, val_main_v50, val_main_v49, val_main_v48, val_main_v47, val_main_v46, val_main_v45, val_main_c_4, val_main_v44, val_main_v43]
  exact mask i r m

end Cert.AttnRefIdeal.Row

end
-- ==== Proof.AttnRefRow.lean ====
/- What the attention reference computes, row by row. -/
module

public import proofs.«01_k».proof.Proof.Gen.AttnRefIdeal.Read
public import proofs.«01_k».proof.Proof.AttnSoft
public import proofs.«01_k».proof.Proof.AttnRefKeys
public import proofs.«01_k».proof.Proof.AttnRefMask
public import Idealize.ShloMosaic.Lib.Pipeline.ValueKit
public import Idealize.ShloMosaic.Lib.Pointwise
public import Idealize.ShloMosaic.Lib.ValueIdxRank6

@[expose] public section

set_option maxRecDepth 16384

noncomputable section

open Idealize.ShloMosaic Idealize.ShloMosaic.TcCoe Idealize.SL.Sem

namespace Cert.AttnRefIdeal.Row

open Cert.AttnRefIdeal Cert.AttnRefIdeal.Gen Cert.AttnRefIdeal.Read Cert.MlpRow Cert.AttnRow

variable (x : FVec Ideal S8x4096x1024 .f32) (g : FVec Ideal S2x1024 .f32) (w : FVec Ideal S1x1024x1280 .f32)
  (b : FVec Ideal S1x1280 .f32) (wo : FVec Ideal S1x1024x1024 .f32) (bo : FVec Ideal S1x1024 .f32) (z : FVec Ideal S1x16 .f32)

/-- The scores. -/
theorem score_at (n : Fin 8) (i : Fin 32) (r : Fin 128) (kv : Fin 2) (a : Fin 8) (m : Fin 256) :
    val_main_v76 (F := Ideal) x g w b (ix6 n i kv a r m) = score (rows x g n) (wt w) (bs b) i r kv a m := by
  rw [val_main_v76_apply, dotted_at, seen_at, score]
  have : val_main_call2_v2 (F := Ideal) (ix6 n i kv a r m) = ⊥ := by
    rw [← bot_eq]
    pointwise [val_main_call2_v2, val_main_call2_v0, val_main_cst_10, id_eq]
  rw [this]
  by_cases h : Seen i r m
  · rw [if_pos h, if_pos h, Scalar.select, if_pos (show (1#1 : BitVec 1) = 1 from rfl)]
  · rw [if_neg h, if_neg h, Scalar.select, if_neg (by decide)]

/-- The largest score. -/
theorem highest_at (n : Fin 8) (i : Fin 32) (r : Fin 128) (kv : Fin 2) (a : Fin 8) :
    val_main_v79 (F := Ideal) x g w b (ix5 n i kv a r) = Finset.univ.fold max ⊥ (score (rows x g n) (wt w) (bs b) i r kv a) := by
  have hs : (fun m => val_main_v76 (F := Ideal) x g w b (ix6 n i kv a r m)) = score (rows x g n) (wt w) (bs b) i r kv a :=
    funext fun m => score_at x g w b n i r kv a m
  rw [← hs, ← bot_eq]
  unfold val_main_v79
  generalize (val_main_v76 (F := Ideal) x g w b : S8x32x2x8x128x256.Idx → EReal) = y
  refine (Host.reduce_eq_fold_single (FloatOps.maximumf (F := Ideal) (φ := .f32)) y _ reducesTo_S8x32x2x8x128x256_S8x32x2x8x128_d5 (by decide) h_S_ _).trans ?_
  have hy : (y ∘ (show S8x32x2x8x128x256.Reduces [5] S8x32x2x8x128 by decide).lift (ix5 n i kv a r)) = fun m : Fin 256 => y (ix6 n i kv a r m) :=
    funext fun m => congrArg y (funext fun a => Fin.ext (by match a with | ⟨0, _⟩ => rfl | ⟨1, _⟩ => rfl | ⟨2, _⟩ => rfl | ⟨3, _⟩ => rfl | ⟨4, _⟩ => rfl | ⟨5, _⟩ => rfl))
  exact congrArg (Finset.fold max (Ideal.ofBits .f32 0xFF800000#32) · (Finset.univ : Finset (Fin 256))) hy

/-- The sink of a head. -/
theorem sink_at (n : Fin 8) (i : Fin 32) (r : Fin 128) (kv : Fin 2) (a : Fin 8) :
    val_main_v81 (F := Ideal) z (ix6 n i kv a r 0) = zs z kv a := by
  rw [val_main_v81_apply, val_main_v78_apply, val_main_v77_apply, val_main_v27_apply]
  refine congrArg z (funext fun c => Fin.ext ?_)
  match c with
  | ⟨0, _⟩ => rfl
  | ⟨1, _⟩ => show (kv.val * 8 + a.val) % 16 = 8 * kv.val + a.val; omega

/-- The largest score and the sink. -/
theorem top_at (n : Fin 8) (i : Fin 32) (r : Fin 128) (kv : Fin 2) (a : Fin 8) :
    val_main_v82 (F := Ideal) x g w b z (ix6 n i kv a r 0)
      = max (Finset.univ.fold max ⊥ (score (rows x g n) (wt w) (bs b) i r kv a)) (zs z kv a) := by
  have h : idx_main_v80 (ix6 n i kv a r 0) = ix5 n i kv a r :=
    funext fun c => Fin.ext (by match c with | ⟨0, _⟩ => rfl | ⟨1, _⟩ => rfl | ⟨2, _⟩ => rfl | ⟨3, _⟩ => rfl | ⟨4, _⟩ => rfl)
  rw [val_main_v82_apply, sink_at, val_main_v80_apply, h, highest_at]
  rfl

/-- The weights. -/
theorem weight_at (n : Fin 8) (i : Fin 32) (r : Fin 128) (kv : Fin 2) (a : Fin 8) (m : Fin 256) :
    val_main_v85 (F := Ideal) x g w b z (ix6 n i kv a r m)
      = Ideal.exp (score (rows x g n) (wt w) (bs b) i r kv a m - max (Finset.univ.fold max ⊥ (score (rows x g n) (wt w) (bs b) i r kv a)) (zs z kv a)) := by
  have h : idx_main_v83 (ix6 n i kv a r m) = ix6 n i kv a r 0 :=
    funext fun c => Fin.ext (by match c with | ⟨0, _⟩ => rfl | ⟨1, _⟩ => rfl | ⟨2, _⟩ => rfl | ⟨3, _⟩ => rfl | ⟨4, _⟩ => rfl | ⟨5, _⟩ => rfl)
  rw [val_main_v85_apply, val_main_v84_apply, val_main_v83_apply, h, top_at, score_at]
  rfl

/-- The sum of the weights and the sink's. -/
theorem total_at (n : Fin 8) (i : Fin 32) (r : Fin 128) (kv : Fin 2) (a : Fin 8) :
    val_main_v91 (F := Ideal) x g w b z (ix6 n i kv a r 0)
      = (∑ m, Ideal.exp (score (rows x g n) (wt w) (bs b) i r kv a m - max (Finset.univ.fold max ⊥ (score (rows x g n) (wt w) (bs b) i r kv a)) (zs z kv a)))
        + Ideal.exp (zs z kv a - max (Finset.univ.fold max ⊥ (score (rows x g n) (wt w) (bs b) i r kv a)) (zs z kv a)) := by
  have h (m : Fin 256) : idx_main_v86 (idx_main_v87 (ix6 n i kv a r 0)) m = ix6 n i kv a r m :=
    funext fun c => Fin.ext (by match c with | ⟨0, _⟩ => rfl | ⟨1, _⟩ => rfl | ⟨2, _⟩ => rfl | ⟨3, _⟩ => rfl | ⟨4, _⟩ => rfl | ⟨5, _⟩ => rfl)
  have h0 : val_main_cst_12 (F := Ideal) (Shape.Idx.first h_S_) = 0 := by
    show Ideal.ofBits .f32 0x00000000#32 = 0
    simp
  have h88 : val_main_v88 (F := Ideal) z (ix6 n i kv a r 0) = zs z kv a := by
    rw [val_main_v88_apply, ← sink_at z n i r, val_main_v81_apply]
  rw [val_main_v91_apply, val_main_v90_apply, val_main_v89_apply, h88, top_at, val_main_v87_apply, val_main_v86_apply, h0]
  simp only [h, weight_at]
  show (0 + _) + _ = _
  rw [zero_add]
  rfl

/-- What a head leaves. -/
theorem attend_at (n : Fin 8) (i : Fin 32) (kv : Fin 2) (e : Fin 64) (a : Fin 8) (r : Fin 128) :
    val_main_v94 (F := Ideal) x g w b z (ix6 n i kv e a r) = attend (rows x g n) (wt w) (bs b) (zs z) i r kv a e := by
  have hl (m : Fin 256) : lidx_main_v94 (ix6 n i kv e a r) m = ix5 n i m kv e :=
    funext fun c => Fin.ext (by match c with | ⟨0, _⟩ => rfl | ⟨1, _⟩ => rfl | ⟨2, _⟩ => rfl | ⟨3, _⟩ => rfl | ⟨4, _⟩ => rfl)
  have hr (m : Fin 256) : ridx_main_v94 (ix6 n i kv e a r) m = ix6 n i kv a r m :=
    funext fun c => Fin.ext (by match c with | ⟨0, _⟩ => rfl | ⟨1, _⟩ => rfl | ⟨2, _⟩ => rfl | ⟨3, _⟩ => rfl | ⟨4, _⟩ => rfl | ⟨5, _⟩ => rfl)
  have h (m : Fin 256) : idx_main_v92 (ix6 n i kv a r m) = ix6 n i kv a r 0 :=
    funext fun c => Fin.ext (by match c with | ⟨0, _⟩ => rfl | ⟨1, _⟩ => rfl | ⟨2, _⟩ => rfl | ⟨3, _⟩ => rfl | ⟨4, _⟩ => rfl | ⟨5, _⟩ => rfl)
  rw [val_main_v94_apply, attend, soft]
  refine Finset.sum_congr rfl fun m _ => ?_
  rw [hl, hr, band_value_at, val_main_v93_apply, val_main_v92_apply, h, total_at, weight_at]
  rfl

/-- The heads side by side. -/
theorem attended_at (n : Fin 8) (s : Fin 4096) (c : Fin 1024) :
    val_main_v96 (F := Ideal) x g w b z (ix3 n s c) = attended (rows x g n) (wt w) (bs b) (zs z) s c := by
  have h := val_main_v95_apply (F := Ideal) x g w b z
    (ix6 n ⟨s.val / 128, by omega⟩ ⟨s.val % 128, by omega⟩ ⟨c.val / 512, by omega⟩ ⟨c.val / 64 % 8, by omega⟩ ⟨c.val % 64, by omega⟩)
  have e : idx_main_v95 (ix6 n ⟨s.val / 128, by omega⟩ ⟨s.val % 128, by omega⟩ ⟨c.val / 512, by omega⟩ ⟨c.val / 64 % 8, by omega⟩ ⟨c.val % 64, by omega⟩)
      = ix6 n ⟨s.val / 128, by omega⟩ ⟨c.val / 512, by omega⟩ ⟨c.val % 64, by omega⟩ ⟨c.val / 64 % 8, by omega⟩ ⟨s.val % 128, by omega⟩ :=
    funext fun c => Fin.ext (by match c with | ⟨0, _⟩ => rfl | ⟨1, _⟩ => rfl | ⟨2, _⟩ => rfl | ⟨3, _⟩ => rfl | ⟨4, _⟩ => rfl | ⟨5, _⟩ => rfl)
  rw [e, attend_at] at h
  rw [attended, ← h]
  unfold val_main_v96
  generalize val_main_v95 (F := Ideal) x g w b z = y
  refine shapeCast_apply y shapeCasts_S8x32x128x2x8x64_S8x4096x1024 _ _ ?_
  rw [Shape.rowMajor_val_six, Shape.rowMajor_val_three]
  show ((((n.val * 32 + s.val / 128) * 128 + s.val % 128) * 2 + c.val / 512) * 8 + c.val / 64 % 8) * 64 + c.val % 64 = (n.val * 4096 + s.val) * 1024 + c.val
  omega

/-- The output bias. -/
theorem bias_at (n : Fin 8) (s : Fin 4096) (c : Fin 1024) : val_main_v101 (F := Ideal) bo (ix3 n s c) = bo (ix2 0 c) := by
  pointwise [val_main_v101, val_main_v100, val_main_v99]

/-- The output projection's weights. -/
theorem weight_out_at (k c : Fin 1024) : val_main_v97 (F := Ideal) wo (ix2 k c) = wo (ix3 0 k c) := by
  pointwise [val_main_v97]

/-- The reference's result: the row plus the projected heads and their bias. -/
theorem result_at (n : Fin 8) (s : Fin 4096) (c : Fin 1024) :
    val_main_v103 (F := Ideal) x g w b wo bo z (ix3 n s c)
      = x (ix3 n s c) + ((∑ k, attended (rows x g n) (wt w) (bs b) (zs z) s k * wo (ix3 0 k c)) + bo (ix2 0 c)) := by
  have hl (k : Fin 1024) : lidx_main_v98 (ix3 n s c) k = ix3 n s k :=
    funext fun c => Fin.ext (by match c with | ⟨0, _⟩ => rfl | ⟨1, _⟩ => rfl | ⟨2, _⟩ => rfl)
  have hr (k : Fin 1024) : ridx_main_v98 (ix3 n s c) k = ix2 k c :=
    funext fun c => Fin.ext (by match c with | ⟨0, _⟩ => rfl | ⟨1, _⟩ => rfl)
  have h98 : val_main_v98 (F := Ideal) x g w b wo z (ix3 n s c) = ∑ k, attended (rows x g n) (wt w) (bs b) (zs z) s k * wo (ix3 0 k c) := by
    rw [val_main_v98_apply]
    refine Finset.sum_congr rfl fun k _ => ?_
    rw [hl, hr, attended_at, weight_out_at]
  rw [val_main_v103_apply, val_main_v102_apply, h98, bias_at]
  rfl

end Cert.AttnRefIdeal.Row

end
-- ==== Proof.AttnValue.lean ====
/- The attention kernel's result array is the reference's. -/
module

public import proofs.«01_k».proof.Proof.AttnLeft
public import proofs.«01_k».proof.Proof.AttnRefRow

@[expose] public section

set_option maxRecDepth 16384

noncomputable section

open Idealize.ShloMosaic Idealize.ShloMosaic.TcCoe Idealize.SL.Sem
open Idealize.ShloMosaic.Pipeline (Dat)

namespace Cert.AttnIdeal.Array

open Cert.AttnIdeal Cert.AttnIdeal.Gen Cert.AttnIdeal.Tile Cert.AttnRow

variable (m : (ℓ : Loc nD τ sig) → Buf (Elt Ideal) ℓ)

/-- The result array after the run is the reference's term of the arguments, where the norm's scale and the projection to queries and keys are finite and the sinks below infinity. -/
theorem result (c : Dev nD) (hg : ∀ k, Num (G m c (ix2 1 k))) (hw : ∀ k, ∀ j : Fin 1280, j.val < 1152 → Num (W m c (ix3 0 k j)))
    (hb : ∀ j : Fin 1280, j.val < 1152 → Num (B m c (ix2 0 j))) (hz : ∀ h, Z m c (ix2 0 h) < (⊤ : EReal)) : (dats m 0 c).arrAt 11 (cfgs 0).N
    = Cert.AttnRefIdeal.Read.val_main_v103 (F := Ideal) (X m c) (G m c) (W m c) (B m c) (Wo m c) (Bo m c) (Z m c) := by
  refine (dats m 0 c).arrAt_eq_of_covers 11 _ (by decide +kernel) fun t _ y => ?_
  blk_simp
  rw [after0_11]
  idx_vars y
  have ht : t.val < 32 := lt32 t
  obtain rfl : y0 = 0 := Subsingleton.elim _ _
  have he : ((View.whole main_v24).slice (win0_11.rect t)).emb (ix3 0 y1 y2)
      = (ix3 (seq t) ⟨1024 * (t.val % 4) + y1.val, by omega⟩ y2 : S8x4096x1024.Idx) := by
    blk_ext [idx t]
  rw [he]
  exact (left_out m c t hg hw hb hz y1 y2).trans (AttnRefIdeal.Row.result_at _ _ _ _ _ _ _ _ _ _).symm

end Cert.AttnIdeal.Array

end
-- ==== Proof.AttnFinite.lean ====
/- What the attention claim's precondition says entry by entry. -/
module

public import proofs.«01_k».proof.Defs
public import proofs.«01_k».proof.Proof.AttnHolds

@[expose] public section

set_option maxRecDepth 16384

noncomputable section

open Idealize.ShloMosaic Idealize.ShloMosaic.TcCoe Idealize.SL.Sem

namespace Cert.AttnIdeal.Array

open Cert.AttnRow

/-- The precondition's shapes fit. -/
theorem finite_facts : Cert.Pre_finite.Facts where
  slices_S2x1024_S1x1024_1_0 := by decide
  shapeCasts_S1x1024_S1024 := by decide
  bcast_S_S1024 := by decide
  slices_S1x1024x1280_S1x1024x1152_0_0_0 := by decide
  bcast_S_S1x1024x1152 := by decide
  slices_S1x1280_S1x1152_0_0 := by decide
  bcast_S_S1x1152 := by decide
  bcast_S_S1x16 := by decide

/-- An entry the precondition finds below infinity is below it. -/
theorem lt_top_of_olt {x : Ideal .f32} (h : BitVec.ofBool (decide (x < Ideal.ofBits .f32 0x7F800000#32)) = 1#1) : x < (⊤ : EReal) := by
  rw [top_eq] at h
  by_cases h1 : x < (⊤ : EReal)
  · exact h1
  · rw [decide_eq_false h1] at h
    exact absurd h (by decide)

/-- An entry whose size the precondition finds below infinity is a number. -/
theorem num_of_olt {x : Ideal .f32} (h : BitVec.ofBool (decide (FloatOps.absf x < Ideal.ofBits .f32 0x7F800000#32)) = 1#1) : Num x :=
  num_of_abs_lt (lt_top_of_olt h)

variable (m : (ℓ : Loc nD τ sig) → Buf (Elt Ideal) ℓ) (h : Cert.Pre_AttnIdeal_finite (hPre_finite := finite_facts) m) (c : Dev nD)

include h in
/-- The norm's scale is finite. -/
theorem finite_g (k : Fin 1024) : Num (G m c (ix2 1 k)) := by
  have e := congrFun (h c).1 (ix1 k)
  refine num_of_olt (Eq.trans ?_ e)
  pointwise [Cert.Pre_finite.fn]

include h in
/-- The weights of the queries and the keys are finite. -/
theorem finite_w (k : Fin 1024) (j : Fin 1280) (hj : j.val < 1152) : Num (W m c (ix3 0 k j)) := by
  have e := congrFun (h c).2.1 (ix3 0 k ⟨j.val, hj⟩)
  exact num_of_olt (Eq.trans (by pointwise [Cert.Pre_finite.fn]) e)

include h in
/-- Their biases are finite. -/
theorem finite_b (j : Fin 1280) (hj : j.val < 1152) : Num (B m c (ix2 0 j)) := by
  have e := congrFun (h c).2.2.1 (ix2 0 ⟨j.val, hj⟩)
  exact num_of_olt (Eq.trans (by pointwise [Cert.Pre_finite.fn]) e)

include h in
/-- The sinks are below infinity. -/
theorem finite_z (j : Fin 16) : Z m c (ix2 0 j) < (⊤ : EReal) := by
  have e := congrFun (h c).2.2.2 (ix2 0 j)
  exact lt_top_of_olt (Eq.trans (by pointwise [Cert.Pre_finite.fn]) e)

end Cert.AttnIdeal.Array

end
-- ==== Proof.MlpBlock.lean ====
/- What one block of the feed-forward kernel computes, row by row. -/
module

public import proofs.«01_k».proof.Proof.Gen.MlpIdeal.Frame
public import proofs.«01_k».proof.Proof.MlpRow
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.MlpIdeal.Block

open Cert.MlpIdeal Cert.MlpIdeal.Gen Cert.MlpRow

variable (x : FVec Ideal S1024x1024 .f32) (g : FVec Ideal S1x1024 .f32) (r : Fin 1024)

/-- Row `r` of a block. -/
abbrev row (x : FVec Ideal S1024x1024 .f32) (r : Fin 1024) : Fin 1024 → EReal := fun k => x (ix2 r k)

/-- The only row of a one-row block. -/
abbrev only (g : FVec Ideal S1x1024 .f32) : Fin 1024 → EReal := fun k => g (ix2 0 k)

/-- The block's normalised rows. -/
theorem normed_at (k : Fin 1024) : k0_pay3 (F := Ideal) x g (ix2 r k) = normed (row x r) (only g) k := by
  pointwise [k0_pay3, k0_pay2, normed, scale]

/-- The square of the positive part of a product of a block with one chunk of the first weights. -/
theorem hidden_at (w : FVec Ideal S1x1024x1024 .bf16) (n : Fin 1024) :
    k0_pay5 (F := Ideal) x g w (ix2 r n)
      = max (∑ k, normed (row x r) (only g) k * w (ix3 0 k n)) 0 * max (∑ k, normed (row x r) (only g) k * w (ix3 0 k n)) 0 := by
  pointwise [k0_pay5, normed_at]

/-- The rows plus their first chunk of the update. -/
theorem first_at (w d : FVec Ideal S1x1024x1024 .bf16) (j : Fin 1024) :
    k0_pay4 (F := Ideal) x g w d (ix2 r j) = x (ix2 r j)
      + ∑ n : Fin 1024, (max (∑ k, normed (row x r) (only g) k * w (ix3 0 k n)) 0
          * max (∑ k, normed (row x r) (only g) k * w (ix3 0 k n)) 0) * d (ix3 0 n j) := by
  pointwise [k0_pay4, k0_pay2, normed_at]

/-- The other three chunks added on. -/
theorem rest_at (y : FVec Ideal S1024x1024 .bf16) (a : FVec Ideal S1024x1024 .f32) (h : FVec Ideal S1024x1024 .bf16)
    (d1 u2 d2 u3 d3 : FVec Ideal S1x1024x1024 .bf16) (hs : Fin 1024 → EReal) (hh : ∀ n, h (ix2 r n) = hs n) (j : Fin 1024) :
    k0_pay6 (F := Ideal) y a h d1 u2 d2 u3 d3 (ix2 r j) = a (ix2 r j)
      + (∑ n : Fin 1024, hs n * d1 (ix3 0 n j))
      + (∑ n : Fin 1024, (max (∑ k, y (ix2 r k) * u2 (ix3 0 k n)) 0
          * max (∑ k, y (ix2 r k) * u2 (ix3 0 k n)) 0) * d2 (ix3 0 n j))
      + (∑ n : Fin 1024, (max (∑ k, y (ix2 r k) * u3 (ix3 0 k n)) 0
          * max (∑ k, y (ix2 r k) * u3 (ix3 0 k n)) 0) * d3 (ix3 0 n j)) := by
  pointwise [k0_pay6, hh]

/-- The last normalisation of the rows. -/
theorem last_at (y : FVec Ideal S1024x1024 .bf16) (a : FVec Ideal S1024x1024 .f32) (h : FVec Ideal S1024x1024 .bf16)
    (d1 u2 d2 u3 d3 : FVec Ideal S1x1024x1024 .bf16) (gf : FVec Ideal S1x1024 .f32) (z : Fin 1024 → EReal)
    (hz : ∀ j, k0_pay6 (F := Ideal) y a h d1 u2 d2 u3 d3 (ix2 r j) = z j) (j : Fin 1024) :
    k0_pay1 (F := Ideal) (k0_pay6 y a h d1 u2 d2 u3 d3) (k0_pay7 gf) (k0_pay8 y a h d1 u2 d2 u3 d3) (ix2 r j)
      = normed z (only gf) j := by
  pointwise [k0_pay1, k0_pay7, k0_pay8, hz, normed, scale]

/-- The four chunks, loaded from weights `u` and `d`, add up to the whole update of the row. -/
theorem chunks_at (xs gs : Fin 1024 → EReal) (u : Fin 1024 → Fin 4096 → EReal) (d : Fin 4096 → Fin 1024 → EReal)
    (u0 d0 u1 d1 u2 d2 u3 d3 : FVec Ideal S1x1024x1024 .bf16)
    (hx : ∀ k, x (ix2 r k) = xs k) (hg : ∀ k, g (ix2 0 k) = gs k)
    (hu0 : ∀ k n, u0 (ix3 0 k n) = u k (col 0 n)) (hd0 : ∀ n j, d0 (ix3 0 n j) = d (col 0 n) j)
    (hu1 : ∀ k n, u1 (ix3 0 k n) = u k (col 1 n)) (hd1 : ∀ n j, d1 (ix3 0 n j) = d (col 1 n) j)
    (hu2 : ∀ k n, u2 (ix3 0 k n) = u k (col 2 n)) (hd2 : ∀ n j, d2 (ix3 0 n j) = d (col 2 n) j)
    (hu3 : ∀ k n, u3 (ix3 0 k n) = u k (col 3 n)) (hd3 : ∀ n j, d3 (ix3 0 n j) = d (col 3 n) j) (j : Fin 1024) :
    k0_pay6 (F := Ideal) (k0_pay3 x g) (k0_pay4 x g u0 d0) (k0_pay5 x g u1) d1 u2 d2 u3 d3 (ix2 r j)
      = updated xs gs u d j := by
  rw [rest_at r _ _ _ _ _ _ _ _ _ (hidden_at x g r u1), first_at, ← updated_chunks]
  have hr : row x r = xs := funext hx
  have ho : only g = gs := funext hg
  simp only [normed_at, hr, ho, hx, hu0, hu1, hu2, hu3, hd0, hd1, hd2, hd3, hiddenUnit]

/-- What the block computes at row `r`: the row's update, normalised. -/
theorem out_at (u : FVec Ideal S1x1024x4096 .bf16) (d : FVec Ideal S1x4096x1024 .bf16) (gf : FVec Ideal S1x1024 .f32)
    (j : Fin 1024) :
    out0_5 (F := Ideal) x g u d gf (ix2 r j)
      = final (row x r) (only g) (fun k n => u (ix3 0 k n)) (fun n j => d (ix3 0 n j)) (only gf) j := by
  frame_out
  refine last_at r _ _ _ _ _ _ _ _ gf _ (fun j => ?_) j
  unfold k0_pay9 k0_pay10 k0_pay11
  refine chunks_at _ _ r _ _ _ _ _ _ _ _ _ _ _ _ (fun k => ?_) (fun k => ?_) (fun k n => ?_) (fun n j => ?_)
    (fun k n => ?_) (fun n j => ?_) (fun k n => ?_) (fun n j => ?_) (fun k n => ?_) (fun n j => ?_) j <;>
  (pointwise []; try rfl)
  · exact congrArg (fun c => u (ix3 0 k c)) (col_zero n)
  · exact congrArg (fun c => d (ix3 0 c j)) (col_zero n)

end Cert.MlpIdeal.Block

end
-- ==== Proof.MlpRefRow.lean ====
/- What the feed-forward reference computes, row by row. -/
module

public import proofs.«01_k».proof.Proof.Gen.MlpRefIdeal.Read
public import proofs.«01_k».proof.Proof.MlpRow
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.MlpRefIdeal.Row

open Cert.MlpRefIdeal Cert.MlpRefIdeal.Gen Cert.MlpRefIdeal.Read Cert.MlpRow

variable (x : FVec Ideal S8x4096x1024 .f32) (g : FVec Ideal S2x1024 .f32) (u : FVec Ideal S2x1024x4096 .f32)
  (d : FVec Ideal S2x4096x1024 .f32) (gf : FVec Ideal S1024 .f32) (b : Fin 8) (s : Fin 4096)

/-- The normalised row `s` of batch `b`. -/
theorem normed_at (k : Fin 1024) :
    val_main_v14 (F := Ideal) x g (ix3 b s k) = normed (fun k => x (ix3 b s k)) (fun k => g (ix2 1 k)) k := by
  pointwise [val_main_v14, val_main_v13, val_main_v12, val_main_v11, val_main_v10, val_main_v9, val_main_v8,
    val_main_v7, val_main_v6, val_main_v5, val_main_v4, val_main_v3, val_main_v2, val_main_v1, val_main_v0,
    val_main_cst, val_main_cst_0, val_main_cst_1, normed, scale]

/-- The row plus its feed-forward update. -/
theorem updated_at (j : Fin 1024) :
    val_main_v23 (F := Ideal) x g u d (ix3 b s j)
      = updated (fun k => x (ix3 b s k)) (fun k => g (ix2 1 k)) (fun k n => u (ix3 1 k n)) (fun n j => d (ix3 1 n j)) j := by
  pointwise [val_main_v23, val_main_v22, val_main_v21, val_main_v20, val_main_v19, val_main_v18, val_main_v17,
    val_main_v16, val_main_v15, val_main_call0_v0, val_main_call0_cst, normed_at, updated, hiddenUnit]

/-- The reference's result, at row `r` of all rows. -/
theorem result_at (r : Fin 32768) (j : Fin 1024) :
    val_main_v37 (F := Ideal) x g u d gf (ix2 r j)
      = final (fun k => x (ix3 ⟨r.val / 4096, by omega⟩ ⟨r.val % 4096, by omega⟩ k)) (fun k => g (ix2 1 k))
          (fun k n => u (ix3 1 k n)) (fun n j => d (ix3 1 n j)) (fun k => gf (ix1 k)) j := by
  pointwise [val_main_v37, val_main_v36, val_main_v35, val_main_v34, val_main_v33, val_main_v32, val_main_v31,
    val_main_v30, val_main_v29, val_main_v28, val_main_v27, val_main_v26, val_main_v25, val_main_v24,
    val_main_cst_2, val_main_cst_3, val_main_cst_4, updated_at, final, normed, scale]

end Cert.MlpRefIdeal.Row

end
-- ==== Proof.MlpValue.lean ====
/- The feed-forward kernel's result array is the reference's. -/
module

public import proofs.«01_k».proof.Proof.MlpBlock
public import proofs.«01_k».proof.Proof.MlpRefRow
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MlpIdeal.Array

open Cert.MlpIdeal Cert.MlpIdeal.Gen Cert.MlpRow

variable (m : (ℓ : Loc nD τ sig) → Buf (Elt Ideal) ℓ)

/-- Point `t` takes rows `1024 t` to `1024 t + 1023`; the weights of layer 1 at every point. -/
theorem idx : ∀ t : Fin cfg0.N, win0_0.index t = ![t.val, 0] ∧ win0_1.index t = ![0, 0] ∧ win0_2.index t = ![1, 0, 0]
    ∧ win0_3.index t = ![1, 0, 0] ∧ win0_4.index t = ![0, 0] ∧ win0_5.index t = ![t.val, 0] ∧ t.val < 32 :=
  (by decide +kernel : ∀ t : Fin grid0.N, _)

/-- The result array after the run is the reference's term of the arguments. -/
theorem result (c : Dev nD) : (dats m 0 c).arrAt 5 (cfgs 0).N
    = Cert.MlpRefIdeal.Read.val_main_v37 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  idx_vars y
  have ht : t.val < 32 := (idx t).2.2.2.2.2.2
  have he : ((View.whole main_v7).slice (win0_5.rect t)).emb (ix2 y0 y1)
      = (ix2 ⟨t.val * 1024 + y0.val, by omega⟩ y1 : S32768x1024.Idx) := by
    blk_ext [idx t]
  rw [he]
  refine (Block.out_at _ _ y0 _ _ _ y1).trans (Eq.trans ?_ (MlpRefIdeal.Row.result_at _ _ _ _ _ _ y1).symm)
  congr 1
  · funext k
    simp only [Block.row, Block.only]
    blk_simp [iblk]
    entry_read
    pointwise []
    blk_ext [idx t]
  · funext k
    simp only [Block.row, Block.only]
    blk_simp [iblk]
    entry_read
    pointwise []
    blk_ext [idx t]
  · funext k n
    blk_simp [iblk]
    entry_read
    pointwise []
    blk_ext [idx t]
  · funext n k
    blk_simp [iblk]
    entry_read
    pointwise []
    blk_ext [idx t]
  · funext k
    simp only [Block.row, Block.only]
    blk_simp [iblk]
    entry_read
    pointwise []
    blk_ext [idx t]

end Cert.MlpIdeal.Array

end
-- ==== Proof.MlpFirstBlock.lean ====
/- What one block of the first layer's feed-forward kernel computes, row by row. Its arithmetic is the other
   feed-forward call's without the last normalisation. -/
module

public import proofs.«01_k».proof.Proof.Gen.MlpFirstIdeal.Frame
public import proofs.«01_k».proof.Proof.MlpBlock
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.MlpFirstIdeal.Block

open Cert.MlpFirstIdeal Cert.MlpFirstIdeal.Gen Cert.MlpRow

variable (x : FVec Ideal S1024x1024 .f32) (g : FVec Ideal S1x1024 .f32) (r : Fin 1024)

/-- The sum of a row's chunks is the one of the call with the last normalisation. -/
theorem chunks_eq (u0 d0 u1 d1 u2 d2 u3 d3 : FVec Ideal S1x1024x1024 .bf16) :
    k0_pay1 (F := Ideal) (k0_pay3 x g) (k0_pay4 x g u0 d0) (k0_pay5 x g u1) d1 u2 d2 u3 d3
      = Cert.MlpIdeal.Gen.k0_pay6 (F := Ideal) (Cert.MlpIdeal.Gen.k0_pay3 x g) (Cert.MlpIdeal.Gen.k0_pay4 x g u0 d0)
          (Cert.MlpIdeal.Gen.k0_pay5 x g u1) d1 u2 d2 u3 d3 := rfl

/-- What the block computes at row `r`: the row's update. -/
theorem out_at (u : FVec Ideal S1x1024x4096 .bf16) (d : FVec Ideal S1x4096x1024 .bf16) (gf : FVec Ideal S1x1024 .f32)
    (j : Fin 1024) :
    out0_5 (F := Ideal) x g u d gf (ix2 r j)
      = updated (fun k => x (ix2 r k)) (fun k => g (ix2 0 k)) (fun k n => u (ix3 0 k n)) (fun n j => d (ix3 0 n j)) j := by
  frame_out
  rw [chunks_eq]
  refine Cert.MlpIdeal.Block.chunks_at _ _ r _ _ _ _ _ _ _ _ _ _ _ _ (fun k => ?_) (fun k => ?_) (fun k n => ?_) (fun n j => ?_)
    (fun k n => ?_) (fun n j => ?_) (fun k n => ?_) (fun n j => ?_) (fun k n => ?_) (fun n j => ?_) j <;>
  (pointwise []; try rfl)
  · exact congrArg (fun c => u (ix3 0 k c)) (col_zero n)
  · exact congrArg (fun c => d (ix3 0 c j)) (col_zero n)

end Cert.MlpFirstIdeal.Block

end
-- ==== Proof.MlpFirstRefRow.lean ====
/- What the first layer's feed-forward reference computes, row by row. -/
module

public import proofs.«01_k».proof.Proof.Gen.MlpFirstRefIdeal.Read
public import proofs.«01_k».proof.Proof.MlpRow
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.MlpFirstRefIdeal.Row

open Cert.MlpFirstRefIdeal Cert.MlpFirstRefIdeal.Gen Cert.MlpFirstRefIdeal.Read Cert.MlpRow

variable (x : FVec Ideal S8x4096x1024 .f32) (g : FVec Ideal S2x1024 .f32) (u : FVec Ideal S2x1024x4096 .f32)
  (d : FVec Ideal S2x4096x1024 .f32)

/-- The normalised row `s` of batch `b`. -/
theorem normed_at (b : Fin 8) (s : Fin 4096) (k : Fin 1024) :
    val_main_v14 (F := Ideal) x g (ix3 b s k) = normed (fun k => x (ix3 b s k)) (fun k => g (ix2 0 k)) k := by
  pointwise [val_main_v14, val_main_v13, val_main_v12, val_main_v11, val_main_v10, val_main_v9, val_main_v8,
    val_main_v7, val_main_v6, val_main_v5, val_main_v4, val_main_v3, val_main_v2, val_main_v1, val_main_v0,
    val_main_cst, val_main_cst_0, val_main_cst_1, normed, scale]

/-- The reference's result at row `r` of all rows: the row plus its feed-forward update. -/
theorem result_at (r : Fin 32768) (j : Fin 1024) :
    val_main_v24 (F := Ideal) x g u d (ix2 r j)
      = updated (fun k => x (ix3 ⟨r.val / 4096, by omega⟩ ⟨r.val % 4096, by omega⟩ k)) (fun k => g (ix2 0 k))
          (fun k n => u (ix3 0 k n)) (fun n j => d (ix3 0 n j)) j := by
  pointwise [val_main_v24, val_main_v23, val_main_v22, val_main_v21, val_main_v20, val_main_v19, val_main_v18, val_main_v17,
    val_main_v16, val_main_v15, val_main_call0_v0, val_main_call0_cst, normed_at, updated, hiddenUnit]

end Cert.MlpFirstRefIdeal.Row

end
-- ==== Proof.MlpFirstValue.lean ====
/- The first layer's feed-forward kernel's result array is the reference's. -/
module

public import proofs.«01_k».proof.Proof.MlpFirstBlock
public import proofs.«01_k».proof.Proof.MlpFirstRefRow
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MlpFirstIdeal.Array

open Cert.MlpFirstIdeal Cert.MlpFirstIdeal.Gen Cert.MlpRow

variable (m : (ℓ : Loc nD τ sig) → Buf (Elt Ideal) ℓ)

/-- Point `t` takes rows `1024 t` to `1024 t + 1023`; the weights of layer 0 at every point. -/
theorem idx : ∀ t : Fin cfg0.N, win0_0.index t = ![t.val, 0] ∧ win0_1.index t = ![0, 0] ∧ win0_2.index t = ![0, 0, 0]
    ∧ win0_3.index t = ![0, 0, 0] ∧ win0_4.index t = ![0, 0] ∧ win0_5.index t = ![t.val, 0] ∧ t.val < 32 :=
  (by decide +kernel : ∀ t : Fin grid0.N, _)

/-- The result array after the run is the reference's term of the arguments. -/
theorem result (c : Dev nD) : (dats m 0 c).arrAt 5 (cfgs 0).N
    = Cert.MlpFirstRefIdeal.Read.val_main_v24 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 5 _ (by decide +kernel) fun t _ y => ?_
  blk_simp
  rw [after0_5]
  idx_vars y
  have ht : t.val < 32 := (idx t).2.2.2.2.2.2
  have he : ((View.whole main_v7).slice (win0_5.rect t)).emb (ix2 y0 y1)
      = (ix2 ⟨t.val * 1024 + y0.val, by omega⟩ y1 : S32768x1024.Idx) := by
    blk_ext [idx t]
  rw [he]
  refine (Block.out_at _ _ y0 _ _ _ y1).trans (Eq.trans ?_ (MlpFirstRefIdeal.Row.result_at _ _ _ _ _ y1).symm)
  congr 1
  · funext k
    blk_simp [iblk]
    entry_read
    pointwise []
    blk_ext [idx t]
  · funext k
    blk_simp [iblk]
    entry_read
    pointwise []
    blk_ext [idx t]
  · funext k n
    blk_simp [iblk]
    entry_read
    pointwise []
    blk_ext [idx t]
  · funext n k
    blk_simp [iblk]
    entry_read
    pointwise []
    blk_ext [idx t]

end Cert.MlpFirstIdeal.Array

end
-- ==== Proof.lean ====
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpRefIdeal
public import proofs.«01_k».proof.Proof.Gen.AttnIdeal.Value
public import proofs.«01_k».proof.Proof.Gen.AttnRefIdeal.Run
public import proofs.«01_k».proof.Proof.Gen.AttnRefIdeal.Read
public import proofs.«01_k».proof.Proof.Gen.MlpIdeal.Value
public import proofs.«01_k».proof.Proof.Gen.MlpRefIdeal.Run
public import proofs.«01_k».proof.Proof.Gen.MlpRefIdeal.Read
public import proofs.«01_k».proof.Proof.Gen.MlpFirst
public import proofs.«01_k».proof.Proof.Gen.MlpFirst.Skeleton
public import proofs.«01_k».proof.Proof.Gen.MlpFirst.Launch
public import proofs.«01_k».proof.Proof.Gen.MlpFirst.Points
public import proofs.«01_k».proof.Proof.Gen.MlpFirst.Frame
public import proofs.«01_k».proof.Proof.Gen.MlpFirstIdeal
public import proofs.«01_k».proof.Proof.Gen.MlpFirstIdeal.Skeleton
public import proofs.«01_k».proof.Proof.Gen.MlpFirstIdeal.Launch
public import proofs.«01_k».proof.Proof.Gen.MlpFirstIdeal.Points
public import proofs.«01_k».proof.Proof.Gen.MlpFirstIdeal.Frame
public import proofs.«01_k».proof.Proof.Gen.MlpFirstRefIdeal
public import proofs.«01_k».proof.Proof.Gen.MlpFirstIdeal.Value
public import proofs.«01_k».proof.Proof.Gen.MlpFirstRefIdeal.Run
public import proofs.«01_k».proof.Proof.Gen.MlpFirstRefIdeal.Read
public import proofs.«01_k».proof.Proof.AttnValue
public import proofs.«01_k».proof.Proof.AttnFinite
public import proofs.«01_k».proof.Proof.MlpValue
public import proofs.«01_k».proof.Proof.MlpFirstValue
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The attention reference leaves its arguments and counters as they were. -/
theorem attn_ref_frame : Cert.quiescent_AttnRefIdeal (hAttnRefIdeal := Cert.AttnRefIdeal.Gen.facts) := fun m g _ =>
  (θ_run _ _ _).mono (fun r h => ⟨fun c => (h c).2, sem_eq_zero_of_no_sems (by decide) r.2⟩) (Cert.AttnRefIdeal.Value.run m g)

/-- So does it under the value claim's precondition. -/
theorem attn_ref_frame_finite : Cert.quiescent_AttnRefIdeal_pre_finite (hAttnRefIdeal := Cert.AttnRefIdeal.Gen.facts)
    (hPre_finite := Cert.AttnIdeal.Array.finite_facts) := fun m g _ =>
  (θ_run _ _ _).mono (fun r h => ⟨fun c => (h c).2, sem_eq_zero_of_no_sems (by decide) r.2⟩) (Cert.AttnRefIdeal.Value.run m g)

/-- The attention kernel and its reference end with equal results, where the norm's scale and the projection to queries and
    keys are finite and the sinks below infinity. -/
theorem attn_value : Cert.algebraic_AttnIdeal_AttnRefIdeal_pre_finite (hAttnIdeal := Cert.AttnIdeal.Gen.facts)
    (hAttnRefIdeal := Cert.AttnRefIdeal.Gen.facts) (hPre_finite := Cert.AttnIdeal.Array.finite_facts) := by
  pair_intro
  · run_from Cert.AttnIdeal.Gen.run_main m g
  · run_from Cert.AttnRefIdeal.Value.run m' g'
    rw [Cert.AttnRefIdeal.Read.val_main_v103_eq, Cert.AttnIdeal.Array.result m c (Cert.AttnIdeal.Array.finite_g m hpre c) (Cert.AttnIdeal.Array.finite_w m hpre c)
      (Cert.AttnIdeal.Array.finite_b m hpre c) (Cert.AttnIdeal.Array.finite_z m hpre c),
      (hagree c).1, (hagree c).2.1, (hagree c).2.2.1, (hagree c).2.2.2.1, (hagree c).2.2.2.2.1, (hagree c).2.2.2.2.2.1, (hagree c).2.2.2.2.2.2]

/-- The feed-forward reference leaves its arguments and counters as they were. -/
theorem mlp_ref_frame : Cert.quiescent_MlpRefIdeal (hMlpRefIdeal := Cert.MlpRefIdeal.Gen.facts) := fun m g _ =>
  (θ_run _ _ _).mono (fun r h => ⟨fun c => (h c).2, sem_eq_zero_of_no_sems (by decide) r.2⟩) (Cert.MlpRefIdeal.Value.run m g)

/-- The feed-forward kernel and its reference end with equal results. -/
theorem mlp_value : Cert.algebraic_MlpIdeal_MlpRefIdeal (hMlpIdeal := Cert.MlpIdeal.Gen.facts)
    (hMlpRefIdeal := Cert.MlpRefIdeal.Gen.facts) := by
  pair_intro
  · run_from Cert.MlpIdeal.Gen.run_main m g
  · run_from Cert.MlpRefIdeal.Value.run m' g'
    rw [Cert.MlpRefIdeal.Read.val_main_v37_eq, Cert.MlpIdeal.Array.result m c, (hagree c).1, (hagree c).2.1,
      (hagree c).2.2.1, (hagree c).2.2.2.1, (hagree c).2.2.2.2]

/-- The first layer's feed-forward reference leaves its arguments and counters as they were. -/
theorem mlp_first_ref_frame : Cert.quiescent_MlpFirstRefIdeal (hMlpFirstRefIdeal := Cert.MlpFirstRefIdeal.Gen.facts) := fun m g _ =>
  (θ_run _ _ _).mono (fun r h => ⟨fun c => (h c).2, sem_eq_zero_of_no_sems (by decide) r.2⟩) (Cert.MlpFirstRefIdeal.Value.run m g)

/-- The first layer's feed-forward kernel and its reference end with equal results. -/
theorem mlp_first_value : Cert.algebraic_MlpFirstIdeal_MlpFirstRefIdeal (hMlpFirstIdeal := Cert.MlpFirstIdeal.Gen.facts)
    (hMlpFirstRefIdeal := Cert.MlpFirstRefIdeal.Gen.facts) := by
  pair_intro
  · run_from Cert.MlpFirstIdeal.Gen.run_main m g
  · run_from Cert.MlpFirstRefIdeal.Value.run m' g'
    rw [Cert.MlpFirstRefIdeal.Read.val_main_v24_eq, Cert.MlpFirstIdeal.Array.result m c]

theorem claim : Cert.Claim := ⟨Cert.Attn.Gen.facts, Cert.AttnIdeal.Gen.facts, Cert.AttnRefIdeal.Gen.facts, Cert.Mlp.Gen.facts, Cert.MlpIdeal.Gen.facts, Cert.MlpRefIdeal.Gen.facts,
  Cert.MlpFirst.Gen.facts, Cert.MlpFirstIdeal.Gen.facts, Cert.MlpFirstRefIdeal.Gen.facts, Cert.AttnIdeal.Array.finite_facts,
  fun m g _ => Cert.Attn.Gen.frame m g, fun m g _ => Cert.AttnIdeal.Gen.frame m g, fun m g _ => Cert.AttnIdeal.Gen.frame m g, attn_ref_frame, attn_ref_frame_finite,
  fun m g _ => Cert.Mlp.Gen.frame m g, fun m g _ => Cert.MlpIdeal.Gen.frame m g, mlp_ref_frame,
  fun m g _ => Cert.MlpFirst.Gen.frame m g, fun m g _ => Cert.MlpFirstIdeal.Gen.frame m g, mlp_first_ref_frame,
  ⟨IdealRules.named_const.statement _ _ _ _ _ rfl, IdealRules.named_const.statement _ _ _ _ _ rfl⟩, attn_value, trivial, mlp_value, trivial, mlp_first_value⟩

end Cert.Proof

end
